-- ==== Defs.lean ====
def Pre_Kernel [hPre_sizes_partition_rows : Cert.Pre_sizes_partition_rows.Facts] (m : (ℓ : Loc Cert.Kernel.nD Cert.Kernel.τ Cert.Kernel.sig) → Buf (Elt Bits) ℓ) : Prop :=
  ∀ c : Dev Cert.Kernel.nD,
    (Cert.Pre_sizes_partition_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sizes_partition_rows : Cert.Pre_sizes_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_partition_rows [hPre_sizes_partition_rows : Cert.Pre_sizes_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sizes_partition_rows : Cert.Pre_sizes_partition_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sizes_partition_rows [hReferenceIdeal : Cert.ReferenceIdeal.Facts] [hPre_sizes_partition_rows : Cert.Pre_sizes_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_partition_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sizes_partition_rows : Cert.Pre_sizes_partition_rows.Facts),
    quiescent_Kernel (hKernel := hKernel) (hPre_sizes_partition_rows := hPre_sizes_partition_rows)
    ∧ quiescent_KernelIdeal (hKernelIdeal := hKernelIdeal) (hPre_sizes_partition_rows := hPre_sizes_partition_rows)
    ∧ quiescent_ReferenceIdeal (hReferenceIdeal := hReferenceIdeal)
    ∧ quiescent_ReferenceIdeal_pre_sizes_partition_rows (hReferenceIdeal := hReferenceIdeal) (hPre_sizes_partition_rows := hPre_sizes_partition_rows)
    ∧ preserves_Kernel_KernelIdeal
    ∧ algebraic_KernelIdeal_ReferenceIdeal (hKernelIdeal := hKernelIdeal) (hReferenceIdeal := hReferenceIdeal) (hPre_sizes_partition_rows := hPre_sizes_partition_rows)
-- ==== Pre_sizes_partition_rows.lean ====
abbrev S6144x3584 : Shape := ⟨2, ![6144, 3584]⟩
abbrev S6144x1 : Shape := ⟨2, ![6144, 1]⟩
abbrev S4x3584x10240 : Shape := ⟨3, ![4, 3584, 10240]⟩
abbrev S4x10240 : Shape := ⟨2, ![4, 10240]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S6144x3584 .fp8e4m3) (main_arg1 : FVec F S6144x1 .f32) (main_arg2 : FVec F S4x3584x10240 .fp8e4m3) (main_arg3 : FVec F S4x10240 .f32) (main_arg4 : FVec F S4x10240 .f32) (main_arg5 : IVec S4 32) : IVec S_ 1 :=
  let main_c : IVec S_ 32 := constantI S_ 32 0#32
  let main_v0 : IVec S4 32 := broadcastInDim S4 ![] bcast_S_S4 main_c
  let main_v1 : IVec S4 1 := cmpi .sge main_arg5 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 6144#32
  let main_v3 : IVec S4 32 := broadcastInDim S4 ![] bcast_S_S4 main_c_1
  let main_v4 : IVec S4 1 := cmpi .sle main_arg5 main_v3
  let main_c_2 : IVec S_ 1 := constantI S_ 1 1#1
  let main_v5 : IVec S_ 1 := (fun x v => Host.reduce IntOp.andi x v reducesTo_S4_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S4_S_d0 h_S_) main_arg5 main_c_3
  let main_c_4 : IVec S_ 32 := constantI S_ 32 6144#32
  let main_v8 : IVec S_ 1 := cmpi .eq main_v7 main_c_4
  let main_v9 : IVec S_ 1 := andi main_v6 main_v8
  main_v9
-- ==== Kernel.lean ====
abbrev S6144x3584 : Shape := ⟨2, ![6144, 3584]⟩
abbrev S6144x1 : Shape := ⟨2, ![6144, 1]⟩
abbrev S4x3584x10240 : Shape := ⟨3, ![4, 3584, 10240]⟩
abbrev S4x10240 : Shape := ⟨2, ![4, 10240]⟩
abbrev S4 : Shape := ⟨1, ![4]⟩
abbrev S_ : Shape := ⟨0, ![]⟩
abbrev S1 : Shape := ⟨1, ![1]⟩
abbrev S5 : Shape := ⟨1, ![5]⟩
abbrev S4x1x10240 : Shape := ⟨3, ![4, 1, 10240]⟩
abbrev S6144x5120 : Shape := ⟨2, ![6144, 5120]⟩
abbrev S6144x40 : Shape := ⟨2, ![6144, 40]⟩
abbrev S1x3584x256 : Shape := ⟨3, ![1, 3584, 256]⟩
abbrev S1x1x256 : Shape := ⟨3, ![1, 1, 256]⟩
abbrev S6144x256 : Shape := ⟨2, ![6144, 256]⟩
abbrev S256x3584 : Shape := ⟨2, ![256, 3584]⟩
abbrev S256x1 : Shape := ⟨2, ![256, 1]⟩
abbrev S3584x256 : Shape := ⟨2, ![3584, 256]⟩
abbrev S256x256 : Shape := ⟨2, ![256, 256]⟩
abbrev S1x256 : Shape := ⟨2, ![1, 256]⟩
abbrev S256x128 : Shape := ⟨2, ![256, 128]⟩
abbrev S256x40 : Shape := ⟨2, ![256, 40]⟩
abbrev S256 : Shape := ⟨1, ![256]⟩

abbrev nBuf : Space → Nat
  | .hbm => 15
  | .vmem => 17
  | .smem => 1
  | _ => 0

abbrev bufTy : (tb : Table) → Fin (tcTables nBuf tb) → BufTy
  | .hbm, ⟨0, _⟩ => ⟨S6144x3584, .fp8e4m3⟩
  | .hbm, ⟨1, _⟩ => ⟨S6144x1, .f32⟩
  | .hbm, ⟨2, _⟩ => ⟨S4x3584x10240, .fp8e4m3⟩
  | .hbm, ⟨3, _⟩ => ⟨S4x10240, .f32⟩
  | .hbm, ⟨4, _⟩ => ⟨S4x10240, .f32⟩
  | .hbm, ⟨5, _⟩ => ⟨S4, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S4x1x10240, .f32⟩
  | .hbm, ⟨12, _⟩ => ⟨S4x1x10240, .f32⟩
  | .hbm, ⟨13, _⟩ => ⟨S6144x5120, .fp8e4m3⟩
  | .hbm, ⟨14, _⟩ => ⟨S6144x40, .f32⟩
  | .local _ .vmem, ⟨0, _⟩ => ⟨S6144x3584, .fp8e4m3⟩
  | .local _ .vmem, ⟨1, _⟩ => ⟨S6144x1, .f32⟩
  | .local _ .vmem, ⟨2, _⟩ => ⟨S1x3584x256, .fp8e4m3⟩
  | .local _ .vmem, ⟨3, _⟩ => ⟨S1x3584x256, .fp8e4m3⟩
  | .local _ .vmem, ⟨4, _⟩ => ⟨S1x3584x256, .fp8e4m3⟩
  | .local _ .vmem, ⟨5, _⟩ => ⟨S1x3584x256, .fp8e4m3⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S6144x256, .fp8e4m3⟩
  | .local _ .vmem, ⟨15, _⟩ => ⟨S6144x256, .fp8e4m3⟩
  | .local _ .vmem, ⟨16, _⟩ => ⟨S6144x40, .f32⟩
  | .local _ .smem, ⟨0, _⟩ => ⟨S5, .i32⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![20, 4], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.addi arg1 c1_i32
  let v3 : Index := Scalar.indexCast v2
  ![v3.toNat]
@[reducible] def k0_t1_loop (v1 : BitVec 32) (v4 : BitVec 32) : Scf.Loop 32 :=
  let c0_i32_15 : BitVec 32 := 0#32
  let v23 : BitVec 1 := Scalar.cmpi .sgt v4 v1
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_18 : BitVec 32 := 1#32
  ⟨c0_i32_15, v49, c1_i32_18⟩

def k0_mult1 (v1 : BitVec 32) (v4 : BitVec 32) (k0_t1 : Fin (k0_t1_loop v1 v4).trips) : BitVec 32 :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let c1_i32_18 : BitVec 32 := 1#32
  let arg13 : BitVec 32 := Scf.iv c0_i32_15 c1_i32_18 k0_t1
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  v54
def k0_off3 (v1 : BitVec 32) (v4 : BitVec 32) (k0_t1 : Fin (k0_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let c1_i32_18 : BitVec 32 := 1#32
  let arg13 : BitVec 32 := Scf.iv c0_i32_15 c1_i32_18 k0_t1
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v56 : Index := Scalar.indexCast v55
  let c0 : Index := 0#32
  ![v56.toNat, 0]
def k0_off4 (v1 : BitVec 32) (v4 : BitVec 32) (k0_t1 : Fin (k0_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let c1_i32_18 : BitVec 32 := 1#32
  let arg13 : BitVec 32 := Scf.iv c0_i32_15 c1_i32_18 k0_t1
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v58 : Index := Scalar.indexCast v55
  let c0_21 : Index := 0#32
  ![v58.toNat, 0]
def k0_off5 (v1 : BitVec 32) (v4 : BitVec 32) (k0_t1 : Fin (k0_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let c1_i32_18 : BitVec 32 := 1#32
  let arg13 : BitVec 32 := Scf.iv c0_i32_15 c1_i32_18 k0_t1
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v116 : Index := Scalar.indexCast v55
  let c0_46 : Index := 0#32
  ![v116.toNat, 0]
def k0_off6 (v1 : BitVec 32) (v4 : BitVec 32) (k0_t1 : Fin (k0_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let c1_i32_18 : BitVec 32 := 1#32
  let arg13 : BitVec 32 := Scf.iv c0_i32_15 c1_i32_18 k0_t1
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v216 : Index := Scalar.indexCast v55
  let c0_71 : Index := 0#32
  ![v216.toNat, 0]
def k0_off7 (v1 : BitVec 32) (v4 : BitVec 32) (k0_t1 : Fin (k0_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let c1_i32_18 : BitVec 32 := 1#32
  let arg13 : BitVec 32 := Scf.iv c0_i32_15 c1_i32_18 k0_t1
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v329 : Index := Scalar.indexCast v55
  let c128 : Index := 128#32
  ![v329.toNat, 128]
@[reducible] def k0_t2_loop (v1 : BitVec 32) (v4 : BitVec 32) : Scf.Loop 32 :=
  let c0_i32_15 : BitVec 32 := 0#32
  let v23 : BitVec 1 := Scalar.cmpi .sgt v4 v1
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let v46 : BitVec 32 := Scalar.addi c0_i32_15 v45
  let c1_i32_19 : BitVec 32 := 1#32
  ⟨v49, v46, c1_i32_19⟩
def k0_mult2 (v1 : BitVec 32) (v4 : BitVec 32) (k0_t2 : Fin (k0_t2_loop v1 v4).trips) : BitVec 32 :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let v23 : BitVec 1 := Scalar.cmpi .sgt v4 v1
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_19 : BitVec 32 := 1#32
  let arg13 : BitVec 32 := Scf.iv v49 c1_i32_19 k0_t2
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  v54
def k0_off8 (v1 : BitVec 32) (v4 : BitVec 32) (k0_t2 : Fin (k0_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let v23 : BitVec 1 := Scalar.cmpi .sgt v4 v1
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_19 : BitVec 32 := 1#32
  let arg13 : BitVec 32 := Scf.iv v49 c1_i32_19 k0_t2
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v56 : Index := Scalar.indexCast v55
  let c0 : Index := 0#32
  ![v56.toNat, 0]
def k0_off9 (v1 : BitVec 32) (v4 : BitVec 32) (k0_t2 : Fin (k0_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let v23 : BitVec 1 := Scalar.cmpi .sgt v4 v1
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_19 : BitVec 32 := 1#32
  let arg13 : BitVec 32 := Scf.iv v49 c1_i32_19 k0_t2
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v58 : Index := Scalar.indexCast v55
  let c0_21 : Index := 0#32
  ![v58.toNat, 0]
def k0_off10 (v1 : BitVec 32) (v4 : BitVec 32) (k0_t2 : Fin (k0_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let v23 : BitVec 1 := Scalar.cmpi .sgt v4 v1
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_19 : BitVec 32 := 1#32
  let arg13 : BitVec 32 := Scf.iv v49 c1_i32_19 k0_t2
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v116 : Index := Scalar.indexCast v55
  let c0_46 : Index := 0#32
  ![v116.toNat, 0]
def k0_off11 (v1 : BitVec 32) (v4 : BitVec 32) (k0_t2 : Fin (k0_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let v23 : BitVec 1 := Scalar.cmpi .sgt v4 v1
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_19 : BitVec 32 := 1#32
  let arg13 : BitVec 32 := Scf.iv v49 c1_i32_19 k0_t2
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v216 : Index := Scalar.indexCast v55
  let c0_71 : Index := 0#32
  ![v216.toNat, 0]
def k0_off12 (v1 : BitVec 32) (v4 : BitVec 32) (k0_t2 : Fin (k0_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_15 : BitVec 32 := 0#32
  let v23 : BitVec 1 := Scalar.cmpi .sgt v4 v1
  let v24 : BitVec 32 := Scalar.subi v4 v22
  let c256_i32 : BitVec 32 := 256#32
  let v25 : BitVec 32 := Scalar.addi v24 c256_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c256_i32_7 : BitVec 32 := 256#32
  let c0_i32_10 : BitVec 32 := 0#32
  let v33 : BitVec 1 := Scalar.cmpi .sgt c256_i32_7 c0_i32_10
  let v34 : BitVec 32 := Scalar.extui v33
  let c0_i32_11 : BitVec 32 := 0#32
  let v35 : BitVec 1 := Scalar.cmpi .slt c256_i32_7 c0_i32_11
  let v36 : BitVec 32 := Scalar.extui v35
  let v37 : BitVec 32 := Scalar.subi v34 v36
  let v38 : BitVec 1 := Scalar.cmpi .ne v32 v37
  let v39 : BitVec 32 := Scalar.remsi v26 c256_i32_7
  let c0_i32_12 : BitVec 32 := 0#32
  let v40 : BitVec 1 := Scalar.cmpi .ne v39 c0_i32_12
  let v41 : BitVec 1 := Scalar.andi v38 v40
  let v27 : BitVec 32 := Scalar.divsi v26 c256_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v23 v43 c0_i32_14
  let v45 : BitVec 32 := Scalar.subi v44 c0_i32_15
  let c1_i32_17 : BitVec 32 := 1#32
  let v47 : BitVec 32 := Scalar.divsi v45 c1_i32_17
  let v48 : BitVec 32 := Scalar.muli v47 c1_i32_17
  let v49 : BitVec 32 := Scalar.addi c0_i32_15 v48
  let c1_i32_19 : BitVec 32 := 1#32
  let arg13 : BitVec 32 := Scf.iv v49 c1_i32_19 k0_t2
  let c256_i32_20 : BitVec 32 := 256#32
  let v52 : BitVec 32 := Scalar.muli arg13 c256_i32_20
  let v53 : BitVec 32 := Scalar.addi v22 v52
  let c5888_i32 : BitVec 32 := 5888#32
  let v54 : BitVec 32 := Scalar.minsi v53 c5888_i32
  let v55 : BitVec 32 := v54
  let v329 : Index := Scalar.indexCast v55
  let c128 : Index := 128#32
  ![v329.toNat, 128]

def k0_chk1 (v1 : BitVec 32) (v4 : BitVec 32) : Prop :=
  ((k0_t1_loop v1 v4).OK) ∧
  (∀ k0_t1 : Fin (k0_t1_loop v1 v4).trips, 32 ∣ (k0_mult1 v1 v4 k0_t1).toNat) ∧
  (∀ k0_t1 : Fin (k0_t1_loop v1 v4).trips, ∀ a, (k0_off3 v1 v4 k0_t1) a + S256x3584.size a ≤ S6144x3584.size a) ∧
  (∀ k0_t1 : Fin (k0_t1_loop v1 v4).trips, ∀ a, (k0_off4 v1 v4 k0_t1) a + S256x1.size a ≤ S6144x1.size a) ∧
  (∀ k0_t1 : Fin (k0_t1_loop v1 v4).trips, ∀ a, (k0_off5 v1 v4 k0_t1) a + S256x40.size a ≤ S6144x40.size a) ∧
  (∀ k0_t1 : Fin (k0_t1_loop v1 v4).trips, ∀ a, (k0_off6 v1 v4 k0_t1) a + S256x128.size a ≤ S6144x256.size a) ∧
  (∀ k0_t1 : Fin (k0_t1_loop v1 v4).trips, ∀ (hinb : ∀ a, (k0_off6 v1 v4 k0_t1) a + S256x128.size a ≤ S6144x256.size a), (Rect.unit (s := S6144x256) (k0_off6 v1 v4 k0_t1) S256x128.size hinb).PackedRows (EltTy.packing .fp8e4m3)) ∧
  (∀ k0_t1 : Fin (k0_t1_loop v1 v4).trips, ∀ a, (k0_off7 v1 v4 k0_t1) a + S256x128.size a ≤ S6144x256.size a) ∧
  (∀ k0_t1 : Fin (k0_t1_loop v1 v4).trips, ∀ (hinb : ∀ a, (k0_off7 v1 v4 k0_t1) a + S256x128.size a ≤ S6144x256.size a), (Rect.unit (s := S6144x256) (k0_off7 v1 v4 k0_t1) S256x128.size hinb).PackedRows (EltTy.packing .fp8e4m3)) ∧
  ((k0_t2_loop v1 v4).OK) ∧
  (∀ k0_t2 : Fin (k0_t2_loop v1 v4).trips, 32 ∣ (k0_mult2 v1 v4 k0_t2).toNat) ∧
  (∀ k0_t2 : Fin (k0_t2_loop v1 v4).trips, ∀ a, (k0_off8 v1 v4 k0_t2) a + S256x3584.size a ≤ S6144x3584.size a) ∧
  (∀ k0_t2 : Fin (k0_t2_loop v1 v4).trips, ∀ a, (k0_off9 v1 v4 k0_t2) a + S256x1.size a ≤ S6144x1.size a) ∧
  (∀ k0_t2 : Fin (k0_t2_loop v1 v4).trips, ∀ a, (k0_off10 v1 v4 k0_t2) a + S256x40.size a ≤ S6144x40.size a) ∧
  (∀ k0_t2 : Fin (k0_t2_loop v1 v4).trips, ∀ a, (k0_off11 v1 v4 k0_t2) a + S256x128.size a ≤ S6144x256.size a) ∧
  (∀ k0_t2 : Fin (k0_t2_loop v1 v4).trips, ∀ (hinb : ∀ a, (k0_off11 v1 v4 k0_t2) a + S256x128.size a ≤ S6144x256.size a), (Rect.unit (s := S6144x256) (k0_off11 v1 v4 k0_t2) S256x128.size hinb).PackedRows (EltTy.packing .fp8e4m3)) ∧
  (∀ k0_t2 : Fin (k0_t2_loop v1 v4).trips, ∀ a, (k0_off12 v1 v4 k0_t2) a + S256x128.size a ≤ S6144x256.size a) ∧
  (∀ k0_t2 : Fin (k0_t2_loop v1 v4).trips, ∀ (hinb : ∀ a, (k0_off12 v1 v4 k0_t2) a + S256x128.size a ≤ S6144x256.size a), (Rect.unit (s := S6144x256) (k0_off12 v1 v4 k0_t2) S256x128.size hinb).PackedRows (EltTy.packing .fp8e4m3))
theorem k0_t1_ok : ∀ (v1 : BitVec 32) (v4 : BitVec 32) (k0_hw1 : k0_chk1 v1 v4), (k0_t1_loop v1 v4).OK := fun v1 v4 k0_hw1 => k0_hw1.1
theorem k0_mult1_dvd : ∀ (v1 : BitVec 32) (v4 : BitVec 32) (k0_hw1 : k0_chk1 v1 v4) (k0_t1 : Fin (k0_t1_loop v1 v4).trips), 32 ∣ (k0_mult1 v1 v4 k0_t1).toNat := fun v1 v4 k0_hw1 k0_t1 => k0_hw1.2.1 k0_t1
theorem k0_off3_inb : ∀ (v1 : BitVec 32) (v4 : BitVec 32) (k0_hw1 : k0_chk1 v1 v4) (k0_t1 : Fin (k0_t1_loop v1 v4).trips), ∀ a, (k0_off3 v1 v4 k0_t1) a + S256x3584.size a ≤ S6144x3584.size a := fun v1 v4 k0_hw1 k0_t1 => k0_hw1.2.2.1 k0_t1
theorem k0_off4_inb : ∀ (v1 : BitVec 32) (v4 : BitVec 32) (k0_hw1 : k0_chk1 v1 v4) (k0_t1 : Fin (k0_t1_loop v1 v4).trips), ∀ a, (k0_off4 v1 v4 k0_t1) a + S256x1.size a ≤ S6144x1.size a := fun v1 v4 k0_hw1 k0_t1 => k0_hw1.2.2.2.1 k0_t1
theorem k0_off5_inb : ∀ (v1 : BitVec 32) (v4 : BitVec 32) (k0_hw1 : k0_chk1 v1 v4) (k0_t1 : Fin (k0_t1_loop v1 v4).trips), ∀ a, (k0_off5 v1 v4 k0_t1) a + S256x40.size a ≤ S6144x40.size a := fun v1 v4 k0_hw1 k0_t1 => k0_hw1.2.2.2.2.1 k0_t1
theorem k0_off6_inb : ∀ (v1 : BitVec 32) (v4 : BitVec 32) (k0_hw1 : k0_chk1 v1 v4) (k0_t1 : Fin (k0_t1_loop v1 v4).trips), ∀ a, (k0_off6 v1 v4 k0_t1) a + S256x128.size a ≤ S6144x256.size a := fun v1 v4 k0_hw1 k0_t1 => k0_hw1.2.2.2.2.2.1 k0_t1
theorem k0_off6_packedfp8e4m3 : ∀ (v1 : BitVec 32) (v4 : BitVec 32) (k0_hw1 : k0_chk1 v1 v4) (k0_t1 : Fin (k0_t1_loop v1 v4).trips), (Rect.unit (s := S6144x256) (k0_off6 v1 v4 k0_t1) S256x128.size (k0_off6_inb v1 v4 k0_hw1 k0_t1)).PackedRows (EltTy.packing .fp8e4m3) := fun v1 v4 k0_hw1 k0_t1 => k0_hw1.2.2.2.2.2.2.1 k0_t1 (k0_off6_inb v1 v4 k0_hw1 k0_t1)
theorem k0_off7_inb : ∀ (v1 : BitVec 32) (v4 : BitVec 32) (k0_hw1 : k0_chk1 v1 v4) (k0_t1 : Fin (k0_t1_loop v1 v4).trips), ∀ a, (k0_off7 v1 v4 k0_t1) a + S256x128.size a ≤ S6144x256.size a := fun v1 v4 k0_hw1 k0_t1 => k0_hw1.2.2.2.2.2.2.2.1 k0_t1
theorem k0_off7_packedfp8e4m3 : ∀ (v1 : BitVec 32) (v4 : BitVec 32) (k0_hw1 : k0_chk1 v1 v4) (k0_t1 : Fin (k0_t1_loop v1 v4).trips), (Rect.unit (s := S6144x256) (k0_off7 v1 v4 k0_t1) S256x128.size (k0_off7_inb v1 v4 k0_hw1 k0_t1)).PackedRows (EltTy.packing .fp8e4m3) := fun v1 v4 k0_hw1 k0_t1 => k0_hw1.2.2.2.2.2.2.2.2.1 k0_t1 (k0_off7_inb v1 v4 k0_hw1 k0_t1)
theorem k0_t2_ok : ∀ (v1 : BitVec 32) (v4 : BitVec 32) (k0_hw1 : k0_chk1 v1 v4), (k0_t2_loop v1 v4).OK := fun v1 v4 k0_hw1 => k0_hw1.2.2.2.2.2.2.2.2.2.1
theorem k0_mult2_dvd : ∀ (v1 : BitVec 32) (v4 : BitVec 32) (k0_hw1 : k0_chk1 v1 v4) (k0_t2 : Fin (k0_t2_loop v1 v4).trips), 32 ∣ (k0_mult2 v1 v4 k0_t2).toNat := fun v1 v4 k0_hw1 k0_t2 => k0_hw1.2.2.2.2.2.2.2.2.2.2.1 k0_t2
theorem k0_off8_inb : ∀ (v1 : BitVec 32) (v4 : BitVec 32) (k0_hw1 : k0_chk1 v1 v4) (k0_t2 : Fin (k0_t2_loop v1 v4).trips), ∀ a, (k0_off8 v1 v4 k0_t2) a + S256x3584.size a ≤ S6144x3584.size a := fun v1 v4 k0_hw1 k0_t2 => k0_hw1.2.2.2.2.2.2.2.2.2.2.2.1 k0_t2
theorem k0_off9_inb : ∀ (v1 : BitVec 32) (v4 : BitVec 32) (k0_hw1 : k0_chk1 v1 v4) (k0_t2 : Fin (k0_t2_loop v1 v4).trips), ∀ a, (k0_off9 v1 v4 k0_t2) a + S256x1.size a ≤ S6144x1.size a := fun v1 v4 k0_hw1 k0_t2 => k0_hw1.2.2.2.2.2.2.2.2.2.2.2.2.1 k0_t2
theorem k0_off10_inb : ∀ (v1 : BitVec 32) (v4 : BitVec 32) (k0_hw1 : k0_chk1 v1 v4) (k0_t2 : Fin (k0_t2_loop v1 v4).trips), ∀ a, (k0_off10 v1 v4 k0_t2) a + S256x40.size a ≤ S6144x40.size a := fun v1 v4 k0_hw1 k0_t2 => k0_hw1.2.2.2.2.2.2.2.2.2.2.2.2.2.1 k0_t2
theorem k0_off11_inb : ∀ (v1 : BitVec 32) (v4 : BitVec 32) (k0_hw1 : k0_chk1 v1 v4) (k0_t2 : Fin (k0_t2_loop v1 v4).trips), ∀ a, (k0_off11 v1 v4 k0_t2) a + S256x128.size a ≤ S6144x256.size a := fun v1 v4 k0_hw1 k0_t2 => k0_hw1.2.2.2.2.2.2.2.2.2.2.2.2.2.2.1 k0_t2
theorem k0_off11_packedfp8e4m3 : ∀ (v1 : BitVec 32) (v4 : BitVec 32) (k0_hw1 : k0_chk1 v1 v4) (k0_t2 : Fin (k0_t2_loop v1 v4).trips), (Rect.unit (s := S6144x256) (k0_off11 v1 v4 k0_t2) S256x128.size (k0_off11_inb v1 v4 k0_hw1 k0_t2)).PackedRows (EltTy.packing .fp8e4m3) := fun v1 v4 k0_hw1 k0_t2 => k0_hw1.2.2.2.2.2.2.2.2.2.2.2.2.2.2.2.1 k0_t2 (k0_off11_inb v1 v4 k0_hw1 k0_t2)
theorem k0_off12_inb : ∀ (v1 : BitVec 32) (v4 : BitVec 32) (k0_hw1 : k0_chk1 v1 v4) (k0_t2 : Fin (k0_t2_loop v1 v4).trips), ∀ a, (k0_off12 v1 v4 k0_t2) a + S256x128.size a ≤ S6144x256.size a := fun v1 v4 k0_hw1 k0_t2 => k0_hw1.2.2.2.2.2.2.2.2.2.2.2.2.2.2.2.2.1 k0_t2
theorem k0_off12_packedfp8e4m3 : ∀ (v1 : BitVec 32) (v4 : BitVec 32) (k0_hw1 : k0_chk1 v1 v4) (k0_t2 : Fin (k0_t2_loop v1 v4).trips), (Rect.unit (s := S6144x256) (k0_off12 v1 v4 k0_t2) S256x128.size (k0_off12_inb v1 v4 k0_hw1 k0_t2)).PackedRows (EltTy.packing .fp8e4m3) := fun v1 v4 k0_hw1 k0_t2 => k0_hw1.2.2.2.2.2.2.2.2.2.2.2.2.2.2.2.2.2 k0_t2 (k0_off12_inb v1 v4 k0_hw1 k0_t2)

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3584x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S6144x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S6144x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S6144x3584 : Shape := ⟨2, ![6144, 3584]⟩
abbrev S6144x1 : Shape := ⟨2, ![6144, 1]⟩
abbrev S4x3584x10240 : Shape := ⟨3, ![4, 3584, 10240]⟩
abbrev S4x10240 : Shape := ⟨2, ![4, 10240]⟩
abbrev S4 : Shape := ⟨1, ![4]⟩
abbrev S_ : Shape := ⟨0, ![]⟩
abbrev S1 : Shape := ⟨1, ![1]⟩
abbrev S5 : Shape := ⟨1, ![5]⟩
abbrev S6144x5120 : Shape := ⟨2, ![6144, 5120]⟩
abbrev S6144x40 : Shape := ⟨2, ![6144, 40]⟩
abbrev S6144x10240 : Shape := ⟨2, ![6144, 10240]⟩
abbrev S1x3584x10240 : Shape := ⟨3, ![1, 3584, 10240]⟩
abbrev S3584x10240 : Shape := ⟨2, ![3584, 10240]⟩
abbrev S1x10240 : Shape := ⟨2, ![1, 10240]⟩
abbrev S6144x40x128 : Shape := ⟨3, ![6144, 40, 128]⟩
abbrev S6144x40x1 : Shape := ⟨3, ![6144, 40, 1]⟩
abbrev S1x1x256 : Shape := ⟨3, ![1, 1, 256]⟩
abbrev S6144x40x256 : Shape := ⟨3, ![6144, 40, 256]⟩

abbrev nBuf : Space → Nat
  | .hbm => 14
  | .vmem => 7
  | .smem => 1
  | _ => 0

abbrev bufTy : (tb : Table) → Fin (tcTables nBuf tb) → BufTy
  | .hbm, ⟨0, _⟩ => ⟨S6144x3584, .fp8e4m3⟩
  | .hbm, ⟨1, _⟩ => ⟨S6144x1, .f32⟩
  | .hbm, ⟨2, _⟩ => ⟨S4x3584x10240, .fp8e4m3⟩
  | .hbm, ⟨3, _⟩ => ⟨S4x10240, .f32⟩
  | .hbm, ⟨4, _⟩ => ⟨S4x10240, .f32⟩
  | .hbm, ⟨5, _⟩ => ⟨S4, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S5, .i32⟩
  | .hbm, ⟨12, _⟩ => ⟨S6144x5120, .fp8e4m3⟩
  | .hbm, ⟨13, _⟩ => ⟨S6144x40, .f32⟩
  | .local _ .vmem, ⟨0, _⟩ => ⟨S6144x3584, .fp8e4m3⟩
  | .local _ .vmem, ⟨1, _⟩ => ⟨S6144x1, .f32⟩
  | .local _ .vmem, ⟨2, _⟩ => ⟨S4x3584x10240, .fp8e4m3⟩
  | .local _ .vmem, ⟨3, _⟩ => ⟨S4x10240, .f32⟩
  | .local _ .vmem, ⟨4, _⟩ => ⟨S4x10240, .f32⟩
  | .local _ .vmem, ⟨5, _⟩ => ⟨S6144x5120, .fp8e4m3⟩
  | .local _ .vmem, ⟨6, _⟩ => ⟨S6144x40, .f32⟩
  | .local _ .smem, ⟨0, _⟩ => ⟨S5, .i32⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3584x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.IFrame.Points.lean ====
/- The schedule of `KernelIdeal`'s pipeline: at which grid points each window is fetched or written back, the staging memrefs
   at a point, and the kernel body as the pipeline calls it there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at the first point only, at any contents of the tables (its index map reads none). -/
theorem fetch0_0 (a : (pcfg0 (F := F)).Adm) : ∀ t : Fin (cfg0 a).N, ((cfg0 a).win 0).fetch t = true ↔ t.val % 80 = 0 :=
  (fun t => Pipeline.Window.fetchOf_const cc0_transform_0 (fun _ _ => rfl) (n := 80) (by decide) t : ∀ t : Fin grid0.N, Pipeline.Window.fetchOf grid0 false cc0_transform_0 t = true ↔ t.val % 80 = 0)
/-- Window 1 (operand 2 (%arg1)) is fetched at the first point only, at any contents of the tables (its index map reads none). -/
theorem fetch0_1 (a : (pcfg0 (F := F)).Adm) : ∀ t : Fin (cfg0 a).N, ((cfg0 a).win 1).fetch t = true ↔ t.val % 80 = 0 :=
  (fun t => Pipeline.Window.fetchOf_const cc0_transform_1 (fun _ _ => rfl) (n := 80) (by decide) t : ∀ t : Fin grid0.N, Pipeline.Window.fetchOf grid0 false cc0_transform_1 t = true ↔ t.val % 80 = 0)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%arg2)) is fetched at every point, at any contents of the tables (its index map reads none). -/
theorem fetch0_3 (a : (pcfg0 (F := F)).Adm) : ∀ t : Fin (cfg0 a).N, ((cfg0 a).win 3).fetch t = true :=
  (by decide +kernel : ∀ t : Fin grid0.N, Pipeline.Window.fetchOf grid0 false cc0_transform_3 t = true)
/-- Window 4 (operand 5 (%3)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (operand 6 (%3)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (operand 7 (%4)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 0 (fun _ => rfl) (by decide)) (P := 1) (by decide) t).mpr (Nat.mod_one _) : ∀ t : Fin grid0.N, Pipeline.Window.fetchOf grid0 false cc0_transform_6 t = true)
/-- Window 7 (operand 8 (%4)) is fetched at every point, at any contents of the tables (its index map reads none). -/
theorem fetch0_7 (a : (pcfg0 (F := F)).Adm) : ∀ t : Fin (cfg0 a).N, ((cfg0 a).win 7).fetch t = true :=
  (by decide +kernel : ∀ t : Fin grid0.N, Pipeline.Window.fetchOf grid0 false cc0_transform_7 t = true)
/-- Window 8 (result 0 (%5#0)) is written back at the points ≡ 3 (mod 4), at any contents of the tables (its index map reads none). -/
theorem flush0_8 (a : (pcfg0 (F := F)).Adm) : ∀ t : Fin (cfg0 a).N, ((cfg0 a).win 8).flush t = true ↔ t.val % 4 = 3 :=
  (fun t => Pipeline.Window.flushOf_reads cc0_transform_8 reads0_8 hreads0_8 0 (by decide) (by decide) (Pipeline.Window.sep_of_coord cc0_transform_8 0 1 (fun _ => rfl) (by decide)) (P := 4) (m := 3) (by decide) rfl t : ∀ t : Fin grid0.N, Pipeline.Window.flushOf grid0 true cc0_transform_8 t = true ↔ t.val % 4 = 3)
/-- Window 9 (result 1 (%5#1)) is written back at the last point only, at any contents of the tables (its index map reads none). -/
theorem flush0_9 (a : (pcfg0 (F := F)).Adm) : ∀ t : Fin (cfg0 a).N, ((cfg0 a).win 9).flush t = true ↔ t.val % 80 = 79 :=
  (fun t => Pipeline.Window.flushOf_const cc0_transform_9 (fun _ _ => rfl) (n := 80) (by decide) rfl t : ∀ t : Fin grid0.N, Pipeline.Window.flushOf grid0 true cc0_transform_9 t = true ↔ t.val % 80 = 79)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.KernelIdeal.Gen

end
-- ==== Proof.IFrame.Runs.lean ====
/- What the runs of `KernelIdeal`'s body share: @main up to the kernel, the blocks of the input windows, the staging memrefs,
   and the side conditions the body assumes of the group ends (`Hyps`). -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.IFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_v2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S6144x3584 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S6144x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3584x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3584x256 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S6144x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S6144x40 .f32 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S5) (k0_off1 (grid0.coords t)) S1.size (k0_off1_inb (grid0.coords t))).toLoadRect (tbl m 0) (Shape.Idx.first (numel1_S1.symm ▸ Nat.one_pos))) (tbM0_0.view.readAt (Elt F) (Rect.unit (s := S5) (k0_off2 (grid0.coords t)) S1.size (k0_off2_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S5) (k0_off1 (grid0.coords t)) S1.size (k0_off1_inb (grid0.coords t))).toLoadRect (tbl m 0) (Shape.Idx.first (numel1_S1.symm ▸ Nat.one_pos))) (tbM0_0.view.readAt (Elt F) (Rect.unit (s := S5) (k0_off2 (grid0.coords t)) S1.size (k0_off2_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S5) (k0_off1 (grid0.coords t)) S1.size (k0_off1_inb (grid0.coords t))).toLoadRect (tbl m 0) (Shape.Idx.first (numel1_S1.symm ▸ Nat.one_pos))) (tbM0_0.view.readAt (Elt F) (Rect.unit (s := S5) (k0_off2 (grid0.coords t)) S1.size (k0_off2_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelIdeal.Gen

end
-- ==== Proof.IFrame.RunA.lean ====
/- The run of `KernelIdeal`'s body: from the staged blocks and any contents of the two output buffers, it gives the inputs back
   unchanged and the outputs at some contents. -/
module

public import proofs.«01_k».proof.Proof.IFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole)
    (x0 : Vec F S6144x3584 .fp8e4m3) (x1 : Vec F S6144x1 .f32) (x2 : Vec F S1x3584x256 .fp8e4m3) (x3 : Vec F S1x3584x256 .fp8e4m3) (x4 : Vec F S1x1x256 .f32) (x5 : Vec F S1x1x256 .f32) (x6 : Vec F S1x1x256 .f32) (x7 : Vec F S1x1x256 .f32) (xt0 : TbBuf0 (F := F) c tbM0_0) (k0_hw1 : k0_chk1 (tbM0_0.view.readAt (Elt F) (Rect.unit (s := S5) (k0_off1 i) S1.size (k0_off1_inb i)).toLoadRect xt0 (Shape.Idx.first (numel1_S1.symm ▸ Nat.one_pos))) (tbM0_0.view.readAt (Elt F) (Rect.unit (s := S5) (k0_off2 i) S1.size (k0_off2_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_moe_gate_up i tbM0_0 htbM0_0 arg3 harg3 arg4 harg4 arg5 harg5 arg6 harg6 arg7 harg7 arg8 harg8 arg9 harg9 arg10 harg10 arg11 harg11 arg12 harg12) K := by
    intro E K
    simp only [cc0_moe_gate_up_eq_skeleton]; unfold cc0_moe_gate_up_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    iexact HT0

end Cert.KernelIdeal.Gen

end
-- ==== Proof.IFrame.Frame.lean ====
/- The frame of `KernelIdeal`: every run ends, its arguments unchanged and every semaphore counter at zero, under the side
   conditions `Hyps` on the group ends. -/
module

public import proofs.«01_k».proof.Proof.IFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare d)
    ∗ (∃ d, owns (c : Thread nD τ) (ms0_9 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ d, owns (c : Thread nD τ) (ms0_8 m hO t) fullShare d)
    ∗ (∃ d, owns (c : Thread nD τ) (ms0_9 m hO t) fullShare d))

set_option maxHeartbeats 800000 in
/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_KernelIdeal`'s statement at any `F`, under the side conditions of the tables and of the body. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.KernelIdeal.Gen

end
-- ==== Proof.Words.lean ====
/- Word arithmetic of the row loop: the kernel's floor divisions, its trip count and its tile offsets are those of the
   natural numbers, when the two group ends it reads are at most 6144. -/
module

public import Idealize.ShloMosaic.Lib.WordCmp
public import Idealize.ShloMosaic.Lib.Routing.Words
public import Idealize.ShloMosaic.Lib.LoopRemainder

@[expose] public section

namespace Cert.Words

open Idealize.ShloMosaic Idealize.ShloMosaic.Routing Idealize.ShloMosaic.WordCmp

/-- The first row of the first tile of a group starting at row `a`: `a` rounded down to a multiple of 32. -/
def first (a : Nat) : Nat := a / 32 * 32

/-- The number of 256-row tiles of the group of rows `[a, b)`. -/
def trips (a b : Nat) : Nat := if a < b then (b - first a + 255) / 256 else 0

/-- The first row of tile `k` of a group starting at row `a`: the last tile is moved back to end inside the array. -/
def row0 (a k : Nat) : Nat := min (first a + k * 256) 5888

/-- A group's first tile starts no later than the group. -/
theorem first_le (a : Nat) : first a ≤ a := by unfold first; omega

/-- A tile of a group starts before the group's end. -/
theorem lt_of_lt_trips {a b k : Nat} (h : k < trips a b) : first a + k * 256 < b := by
  unfold trips first at *
  split at h <;> omega

/-- A group has at most 24 tiles. -/
theorem trips_le {a b : Nat} (hb : b ≤ 6144) : trips a b ≤ 24 := by
  unfold trips first; split <;> omega

/-- A tile starts at a multiple of 32. -/
theorem row0_dvd (a k : Nat) : 32 ∣ row0 a k := by unfold row0 first; omega

/-- A tile ends within the rows. -/
theorem row0_le (a k : Nat) : row0 a k + 256 ≤ 6144 := by unfold row0; omega

/-- The rows of a group are below the end of its last tile. -/
theorem lt_first_trips {a b r : Nat} (ha : a ≤ r) (hr : r < b) : r < first a + trips a b * 256 := by
  unfold trips first; split <;> omega

/-- The sign of a nonzero natural word, as the kernel computes it. -/
theorem sign_pos {a : Nat} (ha : a < 2 ^ 31) (h0 : 0 < a) :
    Scalar.subi (Scalar.extui (Scalar.cmpi .sgt (BitVec.ofNat 32 a) 0#32)) (Scalar.extui (Scalar.cmpi .slt (BitVec.ofNat 32 a) 0#32)) = 1#32 := by
  rw [scalar_cmpi_eq, scalar_cmpi_eq, show (0#32 : BitVec 32) = BitVec.ofNat 32 0 from rfl,
    cmpi_sgt_ofNat (w := 32) (by omega) (by decide), cmpi_slt_ofNat (w := 32) (by omega) (by decide)]
  simp only [h0, decide_true, Nat.not_lt_zero, decide_false]
  rfl

/-- The kernel's floor division of a natural word by a positive natural word is the naturals' division. -/
theorem floorDiv {a d : Nat} (ha : a < 2 ^ 31) (h0 : 0 < d) (hd : d < 2 ^ 31) :
    Scalar.select (Scalar.andi (Scalar.cmpi .ne
        (Scalar.subi (Scalar.extui (Scalar.cmpi .sgt (BitVec.ofNat 32 a) 0#32)) (Scalar.extui (Scalar.cmpi .slt (BitVec.ofNat 32 a) 0#32)))
        (Scalar.subi (Scalar.extui (Scalar.cmpi .sgt (BitVec.ofNat 32 d) 0#32)) (Scalar.extui (Scalar.cmpi .slt (BitVec.ofNat 32 d) 0#32))))
        (Scalar.cmpi .ne (Scalar.remsi (BitVec.ofNat 32 a) (BitVec.ofNat 32 d)) 0#32))
      (Scalar.subi (Scalar.divsi (BitVec.ofNat 32 a) (BitVec.ofNat 32 d)) 1#32) (Scalar.divsi (BitVec.ofNat 32 a) (BitVec.ofNat 32 d))
      = BitVec.ofNat 32 (a / d) := by
  rw [sign_pos hd h0, show Scalar.divsi (BitVec.ofNat 32 a) (BitVec.ofNat 32 d) = BitVec.ofNat 32 (a / d) from divsi_word .scalar ha h0 hd,
    show Scalar.remsi (BitVec.ofNat 32 a) (BitVec.ofNat 32 d) = BitVec.ofNat 32 (a % d) from remsi_word .scalar ha h0 hd]
  rcases Nat.eq_zero_or_pos a with h | h
  · subst h
    rw [show Scalar.cmpi .ne (BitVec.ofNat 32 (0 % d)) 0#32 = 0#1 by rw [Nat.zero_mod]; decide]
    rw [show ∀ x : BitVec 1, Scalar.andi x 0#1 = 0#1 by decide]
    exact select_zero _ _
  · rw [sign_pos ha h, show Scalar.cmpi .ne (1#32) (1#32) = 0#1 by decide, show ∀ x : BitVec 1, Scalar.andi 0#1 x = 0#1 by decide]
    exact select_zero _ _

/-- Multiplying words multiplies the numbers. -/
theorem muli_word (a b : Nat) : Scalar.muli (BitVec.ofNat 32 a) (BitVec.ofNat 32 b) = BitVec.ofNat 32 (a * b) := muli_ofNat a b
/-- Adding words adds the numbers. -/
theorem addi_word (a b : Nat) : Scalar.addi (BitVec.ofNat 32 a) (BitVec.ofNat 32 b) = BitVec.ofNat 32 (a + b) := addi_ofNat a b
/-- Subtracting a smaller word subtracts the numbers. -/
theorem subi_word {a b : Nat} (h : b ≤ a) : Scalar.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega
/-- The signed minimum of small words is the minimum of the numbers. -/
theorem minsi_word {a b : Nat} (ha : a < 2 ^ 31) (hb : b < 2 ^ 31) :
    Scalar.minsi (BitVec.ofNat 32 a) (BitVec.ofNat 32 b) = BitVec.ofNat 32 (min a b) := by
  show (if (BitVec.ofNat 32 a).slt (BitVec.ofNat 32 b) then BitVec.ofNat 32 a else BitVec.ofNat 32 b) = _
  rw [BitVec.slt, toInt_ofNat_of_lt (w := 32) (by omega), toInt_ofNat_of_lt (w := 32) (by omega)]
  by_cases h : a < b
  · rw [if_pos (by simpa using h), Nat.min_eq_left (by omega)]
  · rw [if_neg (by simpa using h), Nat.min_eq_right (by omega)]

/-- A counted loop from 0 to a natural word by 1 makes that many trips, -/
theorem trips_word {t : Nat} (h : t < 2 ^ 31) : Scf.trips 0#32 (BitVec.ofNat 32 t) 1#32 = t := by
  unfold Scf.trips
  rw [toInt_ofNat_of_lt (w := 32) (by omega), show (0#32 : BitVec 32).toInt = 0 by decide, show (1#32 : BitVec 32).toInt = 1 by decide]
  omega

/-- and has a meaning. -/
theorem ok_word {t : Nat} (h : t < 2 ^ 31) : Scf.OK 0#32 (BitVec.ofNat 32 t) 1#32 := by
  unfold Scf.OK
  rw [trips_word h, show (0#32 : BitVec 32).toInt = 0 by decide, show (1#32 : BitVec 32).toInt = 1 by decide]
  omega

/-- Its induction variable is the trip's number. -/
theorem iv_word (k : Nat) : Scf.iv 0#32 1#32 k = BitVec.ofNat 32 k := by
  unfold Scf.iv
  rw [BitVec.zero_add, BitVec.mul_one]

end Cert.Words

end
-- ==== Proof.Dev.Chk.lean ====
/- What the words `KernelIdeal`'s body computes from the two group ends it reads come to, and that the side conditions it
   assumes of them hold: for ends at most 6144. -/
module

public import proofs.«01_k».proof.Proof.Gen.KernelIdeal
public import proofs.«01_k».proof.Proof.Words

@[expose] public section

namespace Cert.KernelIdeal.Chk

open Idealize.ShloMosaic Idealize.ShloMosaic.Routing Idealize.ShloMosaic.WordCmp
open Cert.Words

variable {a b : Nat}

/-- The kernel's rounding of a group's start down to a multiple of 32. -/
theorem first_word (ha : a ≤ 6144) (k : Nat) :
    Scalar.minsi (Scalar.addi (Scalar.muli (BitVec.ofNat 32 (a / 32)) 32#32) (Scalar.muli (Scf.iv 0#32 1#32 k) 256#32)) 5888#32
      = BitVec.ofNat 32 (min (first a + k * 256) 5888) ∨ 24 < k := by
  by_cases hk : 24 < k
  · exact .inr hk
  · left
    rw [iv_word, muli_word, muli_word, addi_word, minsi_word (by omega) (by decide), first]

/-- The row loop's bounds: `trips a b` trips from 0 by 1. -/
theorem loop_eq (ha : a ≤ 6144) (hb : b ≤ 6144) :
    k0_t1_loop (BitVec.ofNat 32 a) (BitVec.ofNat 32 b) = ⟨0#32, BitVec.ofNat 32 (trips a b), 1#32⟩ := by
  unfold k0_t1_loop
  dsimp only
  rw [floorDiv (a := a) (d := 32) (by omega) (by decide) (by decide)]
  rw [Scalar.muli_divsi_one, muli_word]
  rw [show Scalar.cmpi .sgt (BitVec.ofNat 32 b) (BitVec.ofNat 32 a) = BitVec.ofBool (decide (a < b)) from
    cmpi_sgt_ofNat (w := 32) (by omega) (by omega)]
  by_cases h : a < b
  · rw [subi_word (a := b) (by omega), addi_word, subi_word (by omega), floorDiv (d := 256) (by omega) (by decide) (by decide),
      select_decide, if_pos h, subi_word (by omega), addi_word]
    congr 2
    simp only [trips, first, if_pos h]
    omega
  · rw [select_decide, if_neg h, trips, if_neg h]
    rfl

/-- The loop makes as many trips as the tiles of a group from row `a` to row `b`. -/
theorem trips_eq (ha : a ≤ 6144) (hb : b ≤ 6144) : (k0_t1_loop (BitVec.ofNat 32 a) (BitVec.ofNat 32 b)).trips = trips a b := by
  rw [loop_eq ha hb]
  exact trips_word (by have := trips_le (a := a) hb; omega)

/-- The loop's bounds and step are well formed. -/
theorem loop_ok (ha : a ≤ 6144) (hb : b ≤ 6144) : (k0_t1_loop (BitVec.ofNat 32 a) (BitVec.ofNat 32 b)).OK := by
  rw [loop_eq ha hb]
  exact ok_word (by have := trips_le (a := a) hb; omega)

/-- The first row of a trip's tile, as the kernel computes it. -/
theorem mult1_eq (ha : a ≤ 6144) (hb : b ≤ 6144) (k : Fin (k0_t1_loop (BitVec.ofNat 32 a) (BitVec.ofNat 32 b)).trips) :
    k0_mult1 (BitVec.ofNat 32 a) (BitVec.ofNat 32 b) k = BitVec.ofNat 32 (row0 a k) := by
  have hk : k.val ≤ 24 := by
    have h1 := k.isLt
    have h2 := trips_le (a := a) hb
    have h3 := trips_eq ha hb
    omega
  unfold k0_mult1
  dsimp only
  rw [floorDiv (a := a) (d := 32) (by omega) (by decide) (by decide)]
  exact (first_word ha k.val).resolve_right (by omega)

/-- The first row of a trip's tile, as a number. -/
theorem mult1_toNat (ha : a ≤ 6144) (hb : b ≤ 6144) (k : Fin (k0_t1_loop (BitVec.ofNat 32 a) (BitVec.ofNat 32 b)).trips) :
    (k0_mult1 (BitVec.ofNat 32 a) (BitVec.ofNat 32 b) k).toNat = row0 a k := by
  rw [mult1_eq ha hb, BitVec.toNat_ofNat]
  have := row0_le a k
  omega

/-- The offsets of a trip's accesses: its tile's first row, and column 0 or 128. -/
theorem off3_eq (ha : a ≤ 6144) (hb : b ≤ 6144) (k : Fin (k0_t1_loop (BitVec.ofNat 32 a) (BitVec.ofNat 32 b)).trips) :
    k0_off3 (BitVec.ofNat 32 a) (BitVec.ofNat 32 b) k = ![row0 a k, 0] := by
  rw [← mult1_toNat ha hb k]; rfl
/-- The same for the access at `k0_off4`. -/
theorem off4_eq (ha : a ≤ 6144) (hb : b ≤ 6144) (k : Fin (k0_t1_loop (BitVec.ofNat 32 a) (BitVec.ofNat 32 b)).trips) :
    k0_off4 (BitVec.ofNat 32 a) (BitVec.ofNat 32 b) k = ![row0 a k, 0] := by
  rw [← mult1_toNat ha hb k]; rfl
/-- The same for the access at `k0_off5`. -/
theorem off5_eq (ha : a ≤ 6144) (hb : b ≤ 6144) (k : Fin (k0_t1_loop (BitVec.ofNat 32 a) (BitVec.ofNat 32 b)).trips) :
    k0_off5 (BitVec.ofNat 32 a) (BitVec.ofNat 32 b) k = ![row0 a k, 0] := by
  rw [← mult1_toNat ha hb k]; rfl
/-- The same for the access at `k0_off6`. -/
theorem off6_eq (ha : a ≤ 6144) (hb : b ≤ 6144) (k : Fin (k0_t1_loop (BitVec.ofNat 32 a) (BitVec.ofNat 32 b)).trips) :
    k0_off6 (BitVec.ofNat 32 a) (BitVec.ofNat 32 b) k = ![row0 a k, 0] := by
  rw [← mult1_toNat ha hb k]; rfl
/-- The same for the access at `k0_off7`. -/
theorem off7_eq (ha : a ≤ 6144) (hb : b ≤ 6144) (k : Fin (k0_t1_loop (BitVec.ofNat 32 a) (BitVec.ofNat 32 b)).trips) :
    k0_off7 (BitVec.ofNat 32 a) (BitVec.ofNat 32 b) k = ![row0 a k, 128] := by
  rw [← mult1_toNat ha hb k]; rfl

/-- The second loop makes no trip. -/
theorem no_trip2 (v1 v4 : BitVec 32) (k : Fin (k0_t2_loop v1 v4).trips) : False :=
  Scf.rem_no_trip 0#32 _ k

/-- Every side condition the body assumes of the two group ends it reads holds when they are at most 6144. -/
theorem chk1 (ha : a ≤ 6144) (hb : b ≤ 6144) : k0_chk1 (BitVec.ofNat 32 a) (BitVec.ofNat 32 b) := by
  have hr : ∀ k, row0 a k + 256 ≤ 6144 := row0_le a
  refine ⟨loop_ok ha hb, ?_, ?_, ?_, ?_, ?_, ?_, ?_, ?_, Scf.rem_ok 0#32 _, fun k => (no_trip2 _ _ k).elim,
    fun k => (no_trip2 _ _ k).elim, fun k => (no_trip2 _ _ k).elim, fun k => (no_trip2 _ _ k).elim, fun k => (no_trip2 _ _ k).elim,
    fun k => (no_trip2 _ _ k).elim, fun k => (no_trip2 _ _ k).elim, fun k => (no_trip2 _ _ k).elim⟩
  · intro k; rw [mult1_toNat ha hb]; exact row0_dvd a k
  · intro k; rw [off3_eq ha hb]; intro x; have := hr k; fin_cases x <;> simp <;> omega
  · intro k; rw [off4_eq ha hb]; intro x; have := hr k; fin_cases x <;> simp <;> omega
  · intro k; rw [off5_eq ha hb]; intro x; have := hr k; fin_cases x <;> simp <;> omega
  · intro k; rw [off6_eq ha hb]; intro x; have := hr k; fin_cases x <;> simp <;> omega
  · intro k h
    refine .inr ⟨by decide, rfl, .inl ⟨?_, by show 4 ∣ 256; decide⟩⟩
    show 4 ∣ k0_off6 _ _ k 0
    rw [off6_eq ha hb]
    exact Dvd.dvd.trans (by decide) (row0_dvd a k)
  · intro k; rw [off7_eq ha hb]; intro x; have := hr k; fin_cases x <;> simp <;> omega
  · intro k h
    refine .inr ⟨by decide, rfl, .inl ⟨?_, by show 4 ∣ 256; decide⟩⟩
    show 4 ∣ k0_off7 _ _ k 0
    rw [off7_eq ha hb]
    exact Dvd.dvd.trans (by decide) (row0_dvd a k)

end Cert.KernelIdeal.Chk

end
-- ==== Proof.Sizes.lean ====
/- The group sizes: what the precondition says of them, and the group ends the host computes from them. -/
module

public import proofs.«01_k».proof.Defs
public import proofs.«01_k».proof.Proof.Gen.Pre_sizes_partition_rows
public import Idealize.ShloMosaic.Lib.ReduceAll
public import Idealize.ShloMosaic.Lib.WordCmp
public import Idealize.ShloMosaic.Lib.Routing.Ops
public import Idealize.ShloMosaic.Lib.Routing.Words
public import Idealize.ShloMosaic.Lib.Pointwise.SelectCore

@[expose] public section

namespace Cert.Sizes

open Idealize.ShloMosaic hiding ix0 ix1 ix2 ix3
open Idealize.ShloMosaic.Routing Idealize.ShloMosaic.ValueIdx Idealize.ShloMosaic.WordCmp

/-- The words `x` hold the four naturals `g 0`, …, `g 3`, which add up to 6144. -/
def Sizes (x : IVec (shape1 4) 32) (g : Nat → Nat) : Prop :=
  (∀ i : Fin 4, x (ix1 i) = BitVec.ofNat 32 (g i.val)) ∧ g 0 + g 1 + g 2 + g 3 = 6144

/-- The end of the first `j` groups: the sum of their sizes. -/
def ends (g : Nat → Nat) (j : Nat) : Nat := ((List.range j).map g).sum

/-- No rows lie before the first group. -/
theorem ends_zero (g : Nat → Nat) : ends g 0 = 0 := rfl

/-- A group ends its size after it starts. -/
theorem ends_succ (g : Nat → Nat) (j : Nat) : ends g (j + 1) = ends g j + g j := by
  unfold ends
  rw [List.range_succ, List.map_append, List.sum_append]
  simp

/-- Later groups end no earlier. -/
theorem ends_mono (g : Nat → Nat) {i j : Nat} (h : i ≤ j) : ends g i ≤ ends g j := by
  induction h with
  | refl => exact Nat.le_refl _
  | step _ ih => rw [ends_succ]; omega

/-- The last group ends at the last row. -/
theorem ends_four {x : IVec (shape1 4) 32} {g : Nat → Nat} (h : Sizes x g) : ends g 4 = 6144 := by
  have := h.2
  simp only [ends_succ, ends_zero]
  omega

/-- No group ends after the last row. -/
theorem ends_le {x : IVec (shape1 4) 32} {g : Nat → Nat} (h : Sizes x g) {j : Nat} (hj : j ≤ 4) : ends g j ≤ 6144 :=
  (ends_mono g hj).trans (ends_four h).le

/-- Every row is in exactly one group. -/
theorem exists_group {x : IVec (shape1 4) 32} {g : Nat → Nat} (h : Sizes x g) {r : Nat} (hr : r < 6144) :
    ∃ e : Fin 4, ends g e.val ≤ r ∧ r < ends g (e.val + 1) := by
  have h4 := ends_four h
  by_cases h1 : r < ends g 1
  · exact ⟨0, by rw [show ((0 : Fin 4).val) = 0 from rfl, ends_zero]; omega, h1⟩
  by_cases h2 : r < ends g 2
  · exact ⟨1, by show ends g 1 ≤ r; omega, h2⟩
  by_cases h3 : r < ends g 3
  · exact ⟨2, by show ends g 2 ≤ r; omega, h3⟩
  · exact ⟨3, by show ends g 3 ≤ r; omega, by show r < ends g 4; omega⟩

/-- The precondition says the words of the group sizes are naturals adding up to 6144. -/
theorem of_pre {F : FTy → Type} [FloatOps F] (a0 : FVec F Pre_sizes_partition_rows.S6144x3584 .fp8e4m3) (a1 : FVec F Pre_sizes_partition_rows.S6144x1 .f32)
    (a2 : FVec F Pre_sizes_partition_rows.S4x3584x10240 .fp8e4m3) (a3 a4 : FVec F Pre_sizes_partition_rows.S4x10240 .f32) (x : IVec Pre_sizes_partition_rows.S4 32)
    (h : Pre_sizes_partition_rows.fn a0 a1 a2 a3 a4 x = fun _ => 1#1) : ∃ g, Sizes x g := by
  have e := congrFun h ix0
  unfold Pre_sizes_partition_rows.fn at e
  dsimp only at e
  rw [andi_at, andi_at] at e
  have and1 : ∀ p q : BitVec 1, IntOp.andi p q = 1#1 → p = 1#1 ∧ q = 1#1 := by decide
  obtain ⟨e1, e3⟩ := and1 _ _ e
  obtain ⟨e1, e2⟩ := and1 _ _ e1
  have sub : Subsingleton Pre_sizes_partition_rows.S_.Idx := ⟨fun a b => funext fun d => d.elim0⟩
  have ge : ∀ i, 0 ≤ (x i).toInt := by
    intro i
    have := Host.reduce_andi_all _ _ _ _ _ e1 i
    rw [cmpi_at, cmpi_sge_eq, ofBool_decide_eq_one_iff] at this
    exact this
  have le : ∀ i, (x i).toInt ≤ 6144 := by
    intro i
    have := Host.reduce_andi_all _ _ _ _ _ e2 i
    rw [cmpi_at, cmpi_sle_eq, ofBool_decide_eq_one_iff] at this
    exact this
  have bd : ∀ i, (x i).toNat ≤ 6144 := by
    intro i
    have h1 := ge i
    have h2 := le i
    rw [BitVec.toInt_eq_toNat_cond] at h1 h2
    split at h1 <;> omega
  let g : Nat → Nat := fun i => if hi : i < 4 then (x (ix1 ⟨i, hi⟩)).toNat else 0
  have hg : ∀ i : Fin 4, x (ix1 i) = BitVec.ofNat 32 (g i.val) := by
    intro i
    show _ = BitVec.ofNat 32 (if hi : i.val < 4 then (x (ix1 ⟨i.val, hi⟩)).toNat else 0)
    rw [dif_pos i.isLt]
    simp
  refine ⟨g, hg, ?_⟩
  have gb : ∀ i < 4, g i ≤ 6144 := by
    intro i hi
    show (if hi : i < 4 then (x (ix1 ⟨i, hi⟩)).toNat else 0) ≤ 6144
    rw [dif_pos hi]
    exact bd _
  rw [cmpi_at, cmpi_eq_eq, ofBool_decide_eq_one_iff] at e3
  have e4 := (reduce_sum x g hg _ _).symm.trans e3
  rw [constantI_at] at e4
  have e5 := congrArg BitVec.toNat e4
  have hs : ((List.range 4).map g).sum = g 0 + g 1 + g 2 + g 3 := by
    show ends g 4 = _
    simp only [ends_succ, ends_zero]; omega
  rw [hs, BitVec.toNat_ofNat, BitVec.toNat_ofNat] at e5
  have := gb 0 (by decide); have := gb 1 (by decide); have := gb 2 (by decide); have := gb 3 (by decide)
  omega

/-- The group ends the host computes, `concat([0], cumsum(x))`, are the words of `ends`. -/
theorem offs_word {x : IVec (shape1 4) 32} {g : Nat → Nat} (h : Sizes x g) (z : IVec (shape1 1) 32) (hz : ∀ i, z i = 0#32)
    (init : IVec shape0 32) (hinit : init ix0 = 0#32)
    (hw : (shape1 4).ReduceWindows (![4] : Fin 1 → Nat) ![1] ![3] ![0] (shape1 4)) (hu : 0 < shape0.numel)
    (hc : Shape.Concatenates [shape1 1, shape1 4] (shape1 5) 0) (j : Fin 5) :
    concatenate (shape1 5) 0 [⟨shape1 1, z⟩, ⟨shape1 4, Host.reduceWindow IntOp.addi ![4] ![1] ![3] ![0] x init hw hu⟩] hc (ix1 j)
      = BitVec.ofNat 32 (ends g j.val) := by
  rw [concatenate_pair_apply]
  have hj := j.isLt
  split
  · rename_i hlt
    rw [hz]
    have : j.val = 0 := by
      have : j.val < 1 := hlt
      omega
    rw [this, ends_zero]
  · rename_i hge
    have h1 : ¬ j.val < 1 := hge
    have key := cumsum1 (N := 4) (Nm1 := 3) rfl x g h.1 init hinit hw hu ⟨j.val - 1, by omega⟩
    rw [show (⟨j.val - 1, by omega⟩ : Fin 4).val + 1 = j.val from by show j.val - 1 + 1 = j.val; omega] at key
    rw [show ends g j.val = ((List.range j.val).map g).sum from rfl, ← key]
    refine congrArg _ (funext fun d => ?_)
    match d with
    | ⟨0, _⟩ => rfl

end Cert.Sizes

end
-- ==== Proof.Dev.Ends.lean ====
/- The frame of `KernelIdeal` from the precondition: the group ends the host computes are at most 6144, so every side condition
   the body assumes of them holds. -/
module

public import proofs.«01_k».proof.Proof.IFrame.Frame
public import proofs.«01_k».proof.Proof.Dev.Chk
public import proofs.«01_k».proof.Proof.Sizes
public import Idealize.ShloMosaic.Lib.StableHlo.RunRead

@[expose] public section

noncomputable section

namespace Cert.KernelIdeal.Ends

open Cert.KernelIdeal Cert.KernelIdeal.Gen Cert.Sizes
open Idealize.ShloMosaic hiding ix0 ix1 ix2 ix3
open Idealize.ShloMosaic.TcCoe Idealize.ShloMosaic.Routing Idealize.ShloMosaic.ValueIdx

variable {F : FTy → Type} [FloatOps F]
variable (m : (ℓ : Loc nD τ sig) → Buf (Elt F) ℓ)

/-- The region finds in the table the host's `concat([0], cumsum(group_sizes))`. -/
theorem V_main_v2 (c : Dev nD) : V m c main_v2
    = concatenate S5 0 [⟨S1, broadcastInDim S1 ![] bcast_S_S1 (constantI S_ 32 0#32)⟩,
        ⟨S4, Host.reduceWindow IntOp.addi ![4] ![1] ![3] ![0] (m ((c : Thread nD τ).loc main_arg5))
          (broadcastInDim S_ ![] bcast_S_S_ (constantI S_ 32 0#32)) reduceWindows_S4_S4_w4s1p3_0 h_S_⟩] concatenates_S1_S4_S5_d0 := by
  unfold V hostOps0 hostOps0_1 hostOps0_2
  simp only [List.flatten_cons, List.flatten_nil, List.append_nil, List.cons_append, List.nil_append]
  after_reads_simp
  rfl

/-- Word `j` of the table is the end of the first `j` groups. -/
theorem V_word {g : Nat → Nat} (c : Dev nD) (h : Sizes (m ((c : Thread nD τ).loc main_arg5)) g) (j : Fin 5) :
    V m c main_v2 (ix1 j) = BitVec.ofNat 32 (ends g j.val) := by
  rw [V_main_v2]
  exact offs_word h _ (fun _ => rfl) _ rfl _ _ _ j

/-- The word the body loads at its group `e` (the second grid coordinate): the end of the groups before it. -/
theorem lo_word {g : Nat → Nat} (h : Sizes (m (((0 : Dev nD) : Thread nD τ).loc main_arg5)) g) (i : grid0.Coords) :
    (tbM0_0.view.readAt (Elt F) (Rect.unit (s := S5) (k0_off1 i) S1.size (k0_off1_inb i)).toLoadRect (tbl m 0) (Shape.Idx.first (numel1_S1.symm ▸ Nat.one_pos)))
      = BitVec.ofNat 32 (ends g (i 1).val) := by
  have hi : (i 1).val < 4 := (i 1).isLt
  refine Eq.trans ?_ (V_word m 0 h ⟨(i 1).val, by omega⟩)
  refine congrArg (V m (0 : Dev nD) main_v2) (funext fun d => Fin.ext ?_)
  match d with
  | ⟨0, _⟩ =>
    show (k0_off1 i) 0 + 0 = (i 1).val
    simp only [k0_off1, Scalar.indexCast, Matrix.cons_val_zero, BitVec.toNat_ofNat]
    omega

/-- The word the body loads after it: the end of its group. -/
theorem hi_word {g : Nat → Nat} (h : Sizes (m (((0 : Dev nD) : Thread nD τ).loc main_arg5)) g) (i : grid0.Coords) :
    (tbM0_0.view.readAt (Elt F) (Rect.unit (s := S5) (k0_off2 i) S1.size (k0_off2_inb i)).toLoadRect (tbl m 0) (Shape.Idx.first (numel1_S1.symm ▸ Nat.one_pos)))
      = BitVec.ofNat 32 (ends g ((i 1).val + 1)) := by
  have hi : (i 1).val < 4 := (i 1).isLt
  refine Eq.trans ?_ (V_word m 0 h ⟨(i 1).val + 1, by omega⟩)
  refine congrArg (V m (0 : Dev nD) main_v2) (funext fun d => Fin.ext ?_)
  match d with
  | ⟨0, _⟩ =>
    show (k0_off2 i) 0 + 0 = (i 1).val + 1
    simp only [k0_off2, Scalar.indexCast, Scalar.addi, IntOp.addi, Matrix.cons_val_zero, BitVec.toNat_add, BitVec.toNat_ofNat]
    omega

/-- Every side condition the body assumes holds when the sizes are natural numbers of sum 6144. -/
theorem hyps_of_sizes {g : Nat → Nat} (h : Sizes (m (((0 : Dev nD) : Thread nD τ).loc main_arg5)) g) (hO : Ok m) : Hyps m hO := by
  refine Hyps.of fun c t => ?_
  unfold Hyps.p0
  rw [lo_word m h, hi_word m h]
  have hi : ((grid0.coords t) 1).val < 4 := ((grid0.coords t) 1).isLt
  exact Chk.chk1 (ends_le h (by omega)) (ends_le h (by omega))

end Cert.KernelIdeal.Ends

end
-- ==== Proof.KFrame.Points.lean ====
/- The schedule of `Kernel`'s pipeline: at which grid points each window is fetched or written back, the staging memrefs
   at a point, and the kernel body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at the first point only, at any contents of the tables (its index map reads none). -/
theorem fetch0_0 (a : (pcfg0 (F := F)).Adm) : ∀ t : Fin (cfg0 a).N, ((cfg0 a).win 0).fetch t = true ↔ t.val % 80 = 0 :=
  (fun t => Pipeline.Window.fetchOf_const cc0_transform_0 (fun _ _ => rfl) (n := 80) (by decide) t : ∀ t : Fin grid0.N, Pipeline.Window.fetchOf grid0 false cc0_transform_0 t = true ↔ t.val % 80 = 0)
/-- Window 1 (operand 2 (%arg1)) is fetched at the first point only, at any contents of the tables (its index map reads none). -/
theorem fetch0_1 (a : (pcfg0 (F := F)).Adm) : ∀ t : Fin (cfg0 a).N, ((cfg0 a).win 1).fetch t = true ↔ t.val % 80 = 0 :=
  (fun t => Pipeline.Window.fetchOf_const cc0_transform_1 (fun _ _ => rfl) (n := 80) (by decide) t : ∀ t : Fin grid0.N, Pipeline.Window.fetchOf grid0 false cc0_transform_1 t = true ↔ t.val % 80 = 0)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%arg2)) is fetched at every point, at any contents of the tables (its index map reads none). -/
theorem fetch0_3 (a : (pcfg0 (F := F)).Adm) : ∀ t : Fin (cfg0 a).N, ((cfg0 a).win 3).fetch t = true :=
  (by decide +kernel : ∀ t : Fin grid0.N, Pipeline.Window.fetchOf grid0 false cc0_transform_3 t = true)
/-- Window 4 (operand 5 (%3)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (operand 6 (%3)) is fetched at every point, at any contents of the tables (its index map reads none). -/
theorem fetch0_5 (a : (pcfg0 (F := F)).Adm) : ∀ t : Fin (cfg0 a).N, ((cfg0 a).win 5).fetch t = true :=
  (by decide +kernel : ∀ t : Fin grid0.N, Pipeline.Window.fetchOf grid0 false cc0_transform_5 t = true)
/-- Window 6 (operand 7 (%4)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 0 (fun _ => rfl) (by decide)) (P := 1) (by decide) t).mpr (Nat.mod_one _) : ∀ t : Fin grid0.N, Pipeline.Window.fetchOf grid0 false cc0_transform_6 t = true)
/-- Window 7 (operand 8 (%4)) is fetched at every point, at any contents of the tables (its index map reads none). -/
theorem fetch0_7 (a : (pcfg0 (F := F)).Adm) : ∀ t : Fin (cfg0 a).N, ((cfg0 a).win 7).fetch t = true :=
  (by decide +kernel : ∀ t : Fin grid0.N, Pipeline.Window.fetchOf grid0 false cc0_transform_7 t = true)
/-- Window 8 (result 0 (%5#0)) is written back at the points ≡ 3 (mod 4), at any contents of the tables (its index map reads none). -/
theorem flush0_8 (a : (pcfg0 (F := F)).Adm) : ∀ t : Fin (cfg0 a).N, ((cfg0 a).win 8).flush t = true ↔ t.val % 4 = 3 :=
  (fun t => Pipeline.Window.flushOf_reads cc0_transform_8 reads0_8 hreads0_8 0 (by decide) (by decide) (Pipeline.Window.sep_of_coord cc0_transform_8 0 1 (fun _ => rfl) (by decide)) (P := 4) (m := 3) (by decide) rfl t : ∀ t : Fin grid0.N, Pipeline.Window.flushOf grid0 true cc0_transform_8 t = true ↔ t.val % 4 = 3)
/-- Window 9 (result 1 (%5#1)) is written back at the last point only, at any contents of the tables (its index map reads none). -/
theorem flush0_9 (a : (pcfg0 (F := F)).Adm) : ∀ t : Fin (cfg0 a).N, ((cfg0 a).win 9).flush t = true ↔ t.val % 80 = 79 :=
  (fun t => Pipeline.Window.flushOf_const cc0_transform_9 (fun _ _ => rfl) (n := 80) (by decide) rfl t : ∀ t : Fin grid0.N, Pipeline.Window.flushOf grid0 true cc0_transform_9 t = true ↔ t.val % 80 = 79)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.Kernel.Gen

end
-- ==== Proof.KFrame.Runs.lean ====
/- What the runs of `Kernel`'s body share: @main up to the kernel, the blocks of the input windows, the staging memrefs,
   and the side conditions the body assumes of the group ends (`Hyps`). -/
module

public import proofs.«01_k».proof.Proof.Gen.Kernel.Launch
public import proofs.«01_k».proof.Proof.Gen.Kernel.Skeleton
public import proofs.«01_k».proof.Proof.Gen.Kernel.Loops
public import proofs.«01_k».proof.Proof.KFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_v2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S6144x3584 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S6144x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3584x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3584x256 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S6144x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S6144x40 .f32 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S5) (k0_off1 (grid0.coords t)) S1.size (k0_off1_inb (grid0.coords t))).toLoadRect (tbl m 0) (Shape.Idx.first (numel1_S1.symm ▸ Nat.one_pos))) (tbM0_0.view.readAt (Elt F) (Rect.unit (s := S5) (k0_off2 (grid0.coords t)) S1.size (k0_off2_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S5) (k0_off1 (grid0.coords t)) S1.size (k0_off1_inb (grid0.coords t))).toLoadRect (tbl m 0) (Shape.Idx.first (numel1_S1.symm ▸ Nat.one_pos))) (tbM0_0.view.readAt (Elt F) (Rect.unit (s := S5) (k0_off2 (grid0.coords t)) S1.size (k0_off2_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S5) (k0_off1 (grid0.coords t)) S1.size (k0_off1_inb (grid0.coords t))).toLoadRect (tbl m 0) (Shape.Idx.first (numel1_S1.symm ▸ Nat.one_pos))) (tbM0_0.view.readAt (Elt F) (Rect.unit (s := S5) (k0_off2 (grid0.coords t)) S1.size (k0_off2_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.Kernel.Gen

end
-- ==== Proof.KFrame.RunA.lean ====
/- The run of `Kernel`'s body: from the staged blocks and any contents of the two output buffers, it gives the inputs back
   unchanged and the outputs at some contents. -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole)
    (x0 : Vec F S6144x3584 .fp8e4m3) (x1 : Vec F S6144x1 .f32) (x2 : Vec F S1x3584x256 .fp8e4m3) (x3 : Vec F S1x3584x256 .fp8e4m3) (x4 : Vec F S1x1x256 .f32) (x5 : Vec F S1x1x256 .f32) (x6 : Vec F S1x1x256 .f32) (x7 : Vec F S1x1x256 .f32) (xt0 : TbBuf0 (F := F) c tbM0_0) (k0_hw1 : k0_chk1 (tbM0_0.view.readAt (Elt F) (Rect.unit (s := S5) (k0_off1 i) S1.size (k0_off1_inb i)).toLoadRect xt0 (Shape.Idx.first (numel1_S1.symm ▸ Nat.one_pos))) (tbM0_0.view.readAt (Elt F) (Rect.unit (s := S5) (k0_off2 i) S1.size (k0_off2_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_moe_gate_up i tbM0_0 htbM0_0 arg3 harg3 arg4 harg4 arg5 harg5 arg6 harg6 arg7 harg7 arg8 harg8 arg9 harg9 arg10 harg10 arg11 harg11 arg12 harg12) K := by
    intro E K
    simp only [cc0_moe_gate_up_eq_skeleton]; unfold cc0_moe_gate_up_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    iexact HT0

end Cert.Kernel.Gen

end
-- ==== Proof.KFrame.Frame.lean ====
/- The frame of `Kernel`: every run ends, its arguments unchanged and every semaphore counter at zero, under the side
   conditions `Hyps` on the group ends. -/
module

public import proofs.«01_k».proof.Proof.KFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare d)
    ∗ (∃ d, owns (c : Thread nD τ) (ms0_9 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ d, owns (c : Thread nD τ) (ms0_8 m hO t) fullShare d)
    ∗ (∃ d, owns (c : Thread nD τ) (ms0_9 m hO t) fullShare d))

set_option maxHeartbeats 800000 in
/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_Kernel`'s statement at any `F`, under the side conditions of the tables and of the body. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.Dev.KChk.lean ====
/- What the words `Kernel`'s body computes from the two group ends it reads come to, and that the side conditions it
   assumes of them hold: for ends at most 6144. -/
module

public import proofs.«01_k».proof.Proof.Gen.Kernel
public import proofs.«01_k».proof.Proof.Words

@[expose] public section

namespace Cert.Kernel.Chk

open Idealize.ShloMosaic Idealize.ShloMosaic.Routing Idealize.ShloMosaic.WordCmp
open Cert.Words

variable {a b : Nat}

/-- The kernel's rounding of a group's start down to a multiple of 32. -/
theorem first_word (ha : a ≤ 6144) (k : Nat) :
    Scalar.minsi (Scalar.addi (Scalar.muli (BitVec.ofNat 32 (a / 32)) 32#32) (Scalar.muli (Scf.iv 0#32 1#32 k) 256#32)) 5888#32
      = BitVec.ofNat 32 (min (first a + k * 256) 5888) ∨ 24 < k := by
  by_cases hk : 24 < k
  · exact .inr hk
  · left
    rw [iv_word, muli_word, muli_word, addi_word, minsi_word (by omega) (by decide), first]

/-- The row loop's bounds: `trips a b` trips from 0 by 1. -/
theorem loop_eq (ha : a ≤ 6144) (hb : b ≤ 6144) :
    k0_t1_loop (BitVec.ofNat 32 a) (BitVec.ofNat 32 b) = ⟨0#32, BitVec.ofNat 32 (trips a b), 1#32⟩ := by
  unfold k0_t1_loop
  dsimp only
  rw [floorDiv (a := a) (d := 32) (by omega) (by decide) (by decide)]
  rw [Scalar.muli_divsi_one, muli_word]
  rw [show Scalar.cmpi .sgt (BitVec.ofNat 32 b) (BitVec.ofNat 32 a) = BitVec.ofBool (decide (a < b)) from
    cmpi_sgt_ofNat (w := 32) (by omega) (by omega)]
  by_cases h : a < b
  · rw [subi_word (a := b) (by omega), addi_word, subi_word (by omega), floorDiv (d := 256) (by omega) (by decide) (by decide),
      select_decide, if_pos h, subi_word (by omega), addi_word]
    congr 2
    simp only [trips, first, if_pos h]
    omega
  · rw [select_decide, if_neg h, trips, if_neg h]
    rfl

/-- The loop makes as many trips as the tiles of a group from row `a` to row `b`. -/
theorem trips_eq (ha : a ≤ 6144) (hb : b ≤ 6144) : (k0_t1_loop (BitVec.ofNat 32 a) (BitVec.ofNat 32 b)).trips = trips a b := by
  rw [loop_eq ha hb]
  exact trips_word (by have := trips_le (a := a) hb; omega)

/-- The loop's bounds and step are well formed. -/
theorem loop_ok (ha : a ≤ 6144) (hb : b ≤ 6144) : (k0_t1_loop (BitVec.ofNat 32 a) (BitVec.ofNat 32 b)).OK := by
  rw [loop_eq ha hb]
  exact ok_word (by have := trips_le (a := a) hb; omega)

/-- The first row of a trip's tile, as the kernel computes it. -/
theorem mult1_eq (ha : a ≤ 6144) (hb : b ≤ 6144) (k : Fin (k0_t1_loop (BitVec.ofNat 32 a) (BitVec.ofNat 32 b)).trips) :
    k0_mult1 (BitVec.ofNat 32 a) (BitVec.ofNat 32 b) k = BitVec.ofNat 32 (row0 a k) := by
  have hk : k.val ≤ 24 := by
    have h1 := k.isLt
    have h2 := trips_le (a := a) hb
    have h3 := trips_eq ha hb
    omega
  unfold k0_mult1
  dsimp only
  rw [floorDiv (a := a) (d := 32) (by omega) (by decide) (by decide)]
  exact (first_word ha k.val).resolve_right (by omega)

/-- The first row of a trip's tile, as a number. -/
theorem mult1_toNat (ha : a ≤ 6144) (hb : b ≤ 6144) (k : Fin (k0_t1_loop (BitVec.ofNat 32 a) (BitVec.ofNat 32 b)).trips) :
    (k0_mult1 (BitVec.ofNat 32 a) (BitVec.ofNat 32 b) k).toNat = row0 a k := by
  rw [mult1_eq ha hb, BitVec.toNat_ofNat]
  have := row0_le a k
  omega

/-- The offsets of a trip's accesses: its tile's first row, and column 0 or 128. -/
theorem off3_eq (ha : a ≤ 6144) (hb : b ≤ 6144) (k : Fin (k0_t1_loop (BitVec.ofNat 32 a) (BitVec.ofNat 32 b)).trips) :
    k0_off3 (BitVec.ofNat 32 a) (BitVec.ofNat 32 b) k = ![row0 a k, 0] := by
  rw [← mult1_toNat ha hb k]; rfl
/-- The same for the access at `k0_off4`. -/
theorem off4_eq (ha : a ≤ 6144) (hb : b ≤ 6144) (k : Fin (k0_t1_loop (BitVec.ofNat 32 a) (BitVec.ofNat 32 b)).trips) :
    k0_off4 (BitVec.ofNat 32 a) (BitVec.ofNat 32 b) k = ![row0 a k, 0] := by
  rw [← mult1_toNat ha hb k]; rfl
/-- The same for the access at `k0_off5`. -/
theorem off5_eq (ha : a ≤ 6144) (hb : b ≤ 6144) (k : Fin (k0_t1_loop (BitVec.ofNat 32 a) (BitVec.ofNat 32 b)).trips) :
    k0_off5 (BitVec.ofNat 32 a) (BitVec.ofNat 32 b) k = ![row0 a k, 0] := by
  rw [← mult1_toNat ha hb k]; rfl
/-- The same for the access at `k0_off6`. -/
theorem off6_eq (ha : a ≤ 6144) (hb : b ≤ 6144) (k : Fin (k0_t1_loop (BitVec.ofNat 32 a) (BitVec.ofNat 32 b)).trips) :
    k0_off6 (BitVec.ofNat 32 a) (BitVec.ofNat 32 b) k = ![row0 a k, 0] := by
  rw [← mult1_toNat ha hb k]; rfl
/-- The same for the access at `k0_off7`. -/
theorem off7_eq (ha : a ≤ 6144) (hb : b ≤ 6144) (k : Fin (k0_t1_loop (BitVec.ofNat 32 a) (BitVec.ofNat 32 b)).trips) :
    k0_off7 (BitVec.ofNat 32 a) (BitVec.ofNat 32 b) k = ![row0 a k, 128] := by
  rw [← mult1_toNat ha hb k]; rfl

/-- The second loop makes no trip. -/
theorem no_trip2 (v1 v4 : BitVec 32) (k : Fin (k0_t2_loop v1 v4).trips) : False :=
  Scf.rem_no_trip 0#32 _ k

/-- Every side condition the body assumes of the two group ends it reads holds when they are at most 6144. -/
theorem chk1 (ha : a ≤ 6144) (hb : b ≤ 6144) : k0_chk1 (BitVec.ofNat 32 a) (BitVec.ofNat 32 b) := by
  have hr : ∀ k, row0 a k + 256 ≤ 6144 := row0_le a
  refine ⟨loop_ok ha hb, ?_, ?_, ?_, ?_, ?_, ?_, ?_, ?_, Scf.rem_ok 0#32 _, fun k => (no_trip2 _ _ k).elim,
    fun k => (no_trip2 _ _ k).elim, fun k => (no_trip2 _ _ k).elim, fun k => (no_trip2 _ _ k).elim, fun k => (no_trip2 _ _ k).elim,
    fun k => (no_trip2 _ _ k).elim, fun k => (no_trip2 _ _ k).elim, fun k => (no_trip2 _ _ k).elim⟩
  · intro k; rw [mult1_toNat ha hb]; exact row0_dvd a k
  · intro k; rw [off3_eq ha hb]; intro x; have := hr k; fin_cases x <;> simp <;> omega
  · intro k; rw [off4_eq ha hb]; intro x; have := hr k; fin_cases x <;> simp <;> omega
  · intro k; rw [off5_eq ha hb]; intro x; have := hr k; fin_cases x <;> simp <;> omega
  · intro k; rw [off6_eq ha hb]; intro x; have := hr k; fin_cases x <;> simp <;> omega
  · intro k h
    refine .inr ⟨by decide, rfl, .inl ⟨?_, by show 4 ∣ 256; decide⟩⟩
    show 4 ∣ k0_off6 _ _ k 0
    rw [off6_eq ha hb]
    exact Dvd.dvd.trans (by decide) (row0_dvd a k)
  · intro k; rw [off7_eq ha hb]; intro x; have := hr k; fin_cases x <;> simp <;> omega
  · intro k h
    refine .inr ⟨by decide, rfl, .inl ⟨?_, by show 4 ∣ 256; decide⟩⟩
    show 4 ∣ k0_off7 _ _ k 0
    rw [off7_eq ha hb]
    exact Dvd.dvd.trans (by decide) (row0_dvd a k)

end Cert.Kernel.Chk

end
-- ==== Proof.Dev.KEnds.lean ====
/- The frame of `Kernel` from the precondition: the group ends the host computes are at most 6144, so every side condition
   the body assumes of them holds. -/
module

public import proofs.«01_k».proof.Proof.KFrame.Frame
public import proofs.«01_k».proof.Proof.Dev.KChk
public import proofs.«01_k».proof.Proof.Sizes
public import Idealize.ShloMosaic.Lib.StableHlo.RunRead

@[expose] public section

noncomputable section

namespace Cert.Kernel.Ends

open Cert.Kernel Cert.Kernel.Gen Cert.Sizes
open Idealize.ShloMosaic hiding ix0 ix1 ix2 ix3
open Idealize.ShloMosaic.TcCoe Idealize.ShloMosaic.Routing Idealize.ShloMosaic.ValueIdx

variable {F : FTy → Type} [FloatOps F]
variable (m : (ℓ : Loc nD τ sig) → Buf (Elt F) ℓ)

/-- The region finds in the table the host's `concat([0], cumsum(group_sizes))`. -/
theorem V_main_v2 (c : Dev nD) : V m c main_v2
    = concatenate S5 0 [⟨S1, broadcastInDim S1 ![] bcast_S_S1 (constantI S_ 32 0#32)⟩,
        ⟨S4, Host.reduceWindow IntOp.addi ![4] ![1] ![3] ![0] (m ((c : Thread nD τ).loc main_arg5))
          (broadcastInDim S_ ![] bcast_S_S_ (constantI S_ 32 0#32)) reduceWindows_S4_S4_w4s1p3_0 h_S_⟩] concatenates_S1_S4_S5_d0 := by
  unfold V hostOps0 hostOps0_1 hostOps0_2
  simp only [List.flatten_cons, List.flatten_nil, List.append_nil, List.cons_append, List.nil_append]
  after_reads_simp
  rfl

/-- Word `j` of the table is the end of the first `j` groups. -/
theorem V_word {g : Nat → Nat} (c : Dev nD) (h : Sizes (m ((c : Thread nD τ).loc main_arg5)) g) (j : Fin 5) :
    V m c main_v2 (ix1 j) = BitVec.ofNat 32 (ends g j.val) := by
  rw [V_main_v2]
  exact offs_word h _ (fun _ => rfl) _ rfl _ _ _ j

/-- The word the body loads at its group `e` (the second grid coordinate): the end of the groups before it. -/
theorem lo_word {g : Nat → Nat} (h : Sizes (m (((0 : Dev nD) : Thread nD τ).loc main_arg5)) g) (i : grid0.Coords) :
    (tbM0_0.view.readAt (Elt F) (Rect.unit (s := S5) (k0_off1 i) S1.size (k0_off1_inb i)).toLoadRect (tbl m 0) (Shape.Idx.first (numel1_S1.symm ▸ Nat.one_pos)))
      = BitVec.ofNat 32 (ends g (i 1).val) := by
  have hi : (i 1).val < 4 := (i 1).isLt
  refine Eq.trans ?_ (V_word m 0 h ⟨(i 1).val, by omega⟩)
  refine congrArg (V m (0 : Dev nD) main_v2) (funext fun d => Fin.ext ?_)
  match d with
  | ⟨0, _⟩ =>
    show (k0_off1 i) 0 + 0 = (i 1).val
    simp only [k0_off1, Scalar.indexCast, Matrix.cons_val_zero, BitVec.toNat_ofNat]
    omega

/-- The word the body loads after it: the end of its group. -/
theorem hi_word {g : Nat → Nat} (h : Sizes (m (((0 : Dev nD) : Thread nD τ).loc main_arg5)) g) (i : grid0.Coords) :
    (tbM0_0.view.readAt (Elt F) (Rect.unit (s := S5) (k0_off2 i) S1.size (k0_off2_inb i)).toLoadRect (tbl m 0) (Shape.Idx.first (numel1_S1.symm ▸ Nat.one_pos)))
      = BitVec.ofNat 32 (ends g ((i 1).val + 1)) := by
  have hi : (i 1).val < 4 := (i 1).isLt
  refine Eq.trans ?_ (V_word m 0 h ⟨(i 1).val + 1, by omega⟩)
  refine congrArg (V m (0 : Dev nD) main_v2) (funext fun d => Fin.ext ?_)
  match d with
  | ⟨0, _⟩ =>
    show (k0_off2 i) 0 + 0 = (i 1).val + 1
    simp only [k0_off2, Scalar.indexCast, Scalar.addi, IntOp.addi, Matrix.cons_val_zero, BitVec.toNat_add, BitVec.toNat_ofNat]
    omega

/-- Every side condition the body assumes holds when the sizes are natural numbers of sum 6144. -/
theorem hyps_of_sizes {g : Nat → Nat} (h : Sizes (m (((0 : Dev nD) : Thread nD τ).loc main_arg5)) g) (hO : Ok m) : Hyps m hO := by
  refine Hyps.of fun c t => ?_
  unfold Hyps.p0
  rw [lo_word m h, hi_word m h]
  have hi : ((grid0.coords t) 1).val < 4 := ((grid0.coords t) 1).isLt
  exact Chk.chk1 (ends_le h (by omega)) (ends_le h (by omega))

end Cert.Kernel.Ends

end
-- ==== Proof.Dev.Frames.lean ====
/- The frame claims: each program runs, leaves its arguments unchanged and every semaphore counter at zero. -/
module

public import proofs.«01_k».proof.Defs
public import proofs.«01_k».proof.Proof.Dev.Ends
public import proofs.«01_k».proof.Proof.Dev.KEnds
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

namespace Cert.Frames

/-- The frame of the kernel: the precondition gives the sizes, and the sizes every side condition of the body. -/
theorem kernel : Cert.quiescent_Kernel := fun m ρ hm =>
  let ⟨_, hg⟩ := Cert.Sizes.of_pre _ _ _ _ _ _ (hm 0)
  Cert.Kernel.Gen.frame m ρ trivial (Cert.Kernel.Ends.hyps_of_sizes m hg trivial)

/-- The frame of the kernel read at the ideal instance. -/
theorem kernelIdeal : Cert.quiescent_KernelIdeal := fun m ρ hm =>
  let ⟨_, hg⟩ := Cert.Sizes.of_pre _ _ _ _ _ _ (hm 0)
  Cert.KernelIdeal.Gen.frame m ρ trivial (Cert.KernelIdeal.Ends.hyps_of_sizes m hg trivial)

/-- The frame of the reference, of every initial memory. -/
theorem referenceIdeal : Cert.quiescent_ReferenceIdeal := fun m ρ _ => Cert.ReferenceIdeal.Gen.frame m ρ

end Cert.Frames
-- ==== Proof.Value.Quant.lean ====
/- The quantiser of one group of 128 values, twice: as the kernel computes it — the exponent field by halving, the scale and its
   inverse put together as words — and as the reference states it — the least exponent whose power of two is above the
   maximum. For groups bounded by 56 the two agree. -/
module

public import Idealize.ShloMosaic.Lib.Pointwise

@[expose] public section

noncomputable section

namespace Cert.Quant

open Idealize.ShloMosaic

/-! ## What both sides compute -/

/-- The gated activation of a gate and an up value. -/
def act (g u : EReal) : EReal :=
  (min (Ideal.ofBits .f32 1088421888#32) (max (Ideal.ofBits .f32 3235905536#32) u) + 1) * min g (Ideal.ofBits .f32 1088421888#32)
    * Ideal.logistic (Ideal.ofBits .f32 1071242019#32 * min g (Ideal.ofBits .f32 1088421888#32))

/-- The greatest magnitude of a group, times the reciprocal of 448. -/
def amax (f : Fin 128 → EReal) : EReal :=
  Finset.fold max (Ideal.ofBits .f32 4286578688#32) (fun x => (FloatOps.absf (F := Ideal) (φ := .f32) (f x) : EReal)) Finset.univ
    * Ideal.ofBits .f32 991054117#32

/-- A value clipped to the range of the codes. -/
def clip (x : EReal) : EReal := min (Ideal.ofBits .f32 1138753536#32) (max (Ideal.ofBits .f32 3286237184#32) x)

/-! ## The kernel's quantiser -/

/-- One halving step: add `b` to the exponent `e` unless the power of two it then names is above `v`. -/
def halve (v : EReal) (b e : BitVec 32) : BitVec 32 :=
  if v < Ideal.ofBits .f32 (IntOp.shli .vector (IntOp.addi e b) 23#32) then e else IntOp.addi e b

/-- The exponent the eight halving steps find. -/
def expo (v : EReal) : BitVec 32 :=
  halve v 1#32 (halve v 2#32 (halve v 4#32 (halve v 8#32 (halve v 16#32 (halve v 32#32 (halve v 64#32 (halve v 128#32 0#32)))))))

/-- The exponent field, 126 in place of 0. -/
def word (v : EReal) : BitVec 32 :=
  if IntOp.shli .vector (expo v) 23#32 = 0#32 then 1056964608#32 else IntOp.shli .vector (expo v) 23#32

/-- The kernel's code of a value of the group. -/
def kCode (f : Fin 128 → EReal) (l : Fin 128) : EReal :=
  clip (f l * Ideal.ofBits .f32 (IntOp.subi 2122317824#32 (word (amax f))))

/-- The kernel's scale of the group. -/
def kScale (f : Fin 128 → EReal) : EReal := Ideal.ofBits .f32 (IntOp.addi (word (amax f)) 8388608#32)

/-! ## The reference's quantiser -/

/-- The reference's `k`-th candidate exponent, from -126. -/
def cand (k : Fin 256) : EReal :=
  (FloatOps.sitofp (F := Ideal) .f32 (BitVec.ofNat 32 k.val) : EReal) - Ideal.ofBits .f32 1123811328#32

/-- The reference's exponent: the least candidate with `v` below its power of two; 0 where `v` counts as zero. -/
def rExp (v : EReal) : EReal :=
  if v < Ideal.ofBits .f32 8388608#32 then 0
  else Finset.fold min (Ideal.ofBits .f32 2139095040#32)
    (fun k : Fin 256 => if v < Ideal.exp2 (cand k) then cand k else Ideal.ofBits .f32 1124073472#32) Finset.univ

/-- The reference's code of a value of the group. -/
def rCode (f : Fin 128 → EReal) (l : Fin 128) : EReal := clip (f l * Ideal.exp2 (0 - rExp (amax f)))

/-- The reference's scale of the group. -/
def rScale (f : Fin 128 → EReal) : EReal := Ideal.exp2 (rExp (amax f))

/-! ## Words of powers of two -/

/-- The word with exponent field `n` and nothing else denotes `2 ^ (n - 127)`. -/
theorem ofBits_pow (n : ℕ) (h1 : 1 ≤ n) (h2 : n ≤ 254) :
    Ideal.ofBits .f32 (BitVec.ofNat 32 (n * 8388608)) = (((2 : ℝ) ^ ((n : ℤ) - 127) : ℝ) : EReal) := by
  have hb : (BitVec.ofNat 32 (n * 8388608)).toNat = n * 8388608 := by rw [BitVec.toNat_ofNat]; omega
  have hx : ((BitVec.ofNat 32 (n * 8388608)).extractLsb' 23 8).toNat = n := by
    rw [BitVec.extractLsb'_toNat, hb, Nat.shiftRight_eq_div_pow]; omega
  have hf : ((BitVec.ofNat 32 (n * 8388608)).extractLsb' 0 23).toNat = 0 := by
    rw [BitVec.extractLsb'_toNat, hb, Nat.shiftRight_eq_div_pow]; omega
  have hs : ((BitVec.ofNat 32 (n * 8388608)).extractLsb' 31 1 == 1#1) = false := by
    rw [beq_eq_false_iff_ne]
    intro h
    have := congrArg BitVec.toNat h
    rw [BitVec.extractLsb'_toNat, hb, Nat.shiftRight_eq_div_pow] at this
    simp at this
    omega
  unfold Ideal.ofBits Ideal.ieee
  simp only [hx, hf, hs]
  rw [if_neg (by omega), if_neg (by omega)]
  congr 1
  rw [show (n : ℤ) - 127 = ((n : ℤ) - (2 ^ (8 - 1) - 1) - (23 : ℕ)) + (23 : ℕ) by push_cast; norm_num, zpow_add₀ (by norm_num)]
  norm_num [mul_comm]

/-- The word of exponent field 255 is infinity. -/
theorem ofBits_top : Ideal.ofBits .f32 (BitVec.ofNat 32 (255 * 8388608)) = ⊤ := by
  simp [Ideal.ofBits, Ideal.ieee]

/-- Shifting a field into place multiplies it by `2 ^ 23`. -/
theorem shl_word (n : ℕ) (h : n ≤ 255) : IntOp.shli .vector (BitVec.ofNat 32 n) 23#32 = BitVec.ofNat 32 (n * 8388608) := by
  unfold IntOp.shli
  rw [if_pos (by decide)]
  apply BitVec.eq_of_toNat_eq
  rw [BitVec.shiftLeft_eq', BitVec.toNat_shiftLeft, BitVec.toNat_ofNat, BitVec.toNat_ofNat, Nat.shiftLeft_eq]
  norm_num

/-- The sum of two small words is the word of the sum. -/
theorem add_word (n b : ℕ) : IntOp.addi (BitVec.ofNat 32 n) (BitVec.ofNat 32 b) = BitVec.ofNat 32 (n + b) := by
  unfold IntOp.addi; rw [BitVec.ofNat_add]

/-! ## The halving search -/

/-- What is known of the exponent after some steps: it is a number `n` whose power of two is not above `v` (or 0), and `v` is
    below the power `w` further. -/
def Found (v : ℝ) (w : ℕ) (e : BitVec 32) : Prop :=
  ∃ n : ℕ, e = BitVec.ofNat 32 n ∧ n + w ≤ 256 ∧ n ≤ 254 ∧ (n = 0 ∨ (2 : ℝ) ^ ((n : ℤ) - 127) ≤ v)
    ∧ (n + w ≤ 254 → v < (2 : ℝ) ^ (((n + w : ℕ) : ℤ) - 127))

/-- One step of the search halves the interval that holds the field. -/
theorem Found.step {v : ℝ} {b w : ℕ} {e : BitVec 32} (hw : w = b + b) (hb : 1 ≤ b) (h : Found v w e) :
    Found v b (halve (v : EReal) (BitVec.ofNat 32 b) e) := by
  obtain ⟨n, rfl, h1, h2, h3, h4⟩ := h
  subst hw
  unfold halve
  rw [add_word, shl_word _ (by omega)]
  by_cases hn : n + b = 255
  · rw [hn, ofBits_top, if_pos (EReal.coe_lt_top v)]
    exact ⟨n, rfl, by omega, h2, h3, by omega⟩
  · rw [ofBits_pow _ (by omega) (by omega)]
    by_cases hv : v < (2 : ℝ) ^ (((n + b : ℕ) : ℤ) - 127)
    · rw [if_pos (EReal.coe_lt_coe_iff.mpr hv)]
      exact ⟨n, rfl, by omega, h2, h3, fun _ => hv⟩
    · rw [if_neg (fun h => hv (EReal.coe_lt_coe_iff.mp h))]
      exact ⟨n + b, rfl, by omega, by omega, .inr (not_lt.mp hv), fun h => by
        have := h4 (by omega)
        rwa [show n + (b + b) = n + b + b by omega] at this⟩

/-- After all eight steps the field is found exactly. -/
theorem found_expo (v : ℝ) : Found v 1 (expo (v : EReal)) := by
  have h0 : Found v 256 0#32 := ⟨0, rfl, by omega, by omega, .inl rfl, by omega⟩
  exact (((((((h0.step (b := 128) (by omega) (by omega)).step (b := 64) (by omega) (by omega)).step (b := 32) (by omega) (by omega)).step
    (b := 16) (by omega) (by omega)).step (b := 8) (by omega) (by omega)).step (b := 4) (by omega) (by omega)).step
    (b := 2) (by omega) (by omega)).step (b := 1) (by omega) (by omega)

/-- The exponent of a value below `2 ^ 126`. -/
theorem expo_eq (v : ℝ) (hv : v < (2 : ℝ) ^ (126 : ℤ)) : ∃ n : ℕ, expo (v : EReal) = BitVec.ofNat 32 n ∧ n ≤ 252
    ∧ (n = 0 ∨ (2 : ℝ) ^ ((n : ℤ) - 127) ≤ v) ∧ v < (2 : ℝ) ^ ((n : ℤ) - 126) := by
  obtain ⟨n, he, h1, h2, h3, h4⟩ := found_expo v
  have hn : n ≤ 252 := by
    by_contra hc
    rcases h3 with h3 | h3
    · omega
    · have : (2 : ℝ) ^ (126 : ℤ) ≤ (2 : ℝ) ^ ((n : ℤ) - 127) := zpow_le_zpow_right₀ (by norm_num) (by omega)
      linarith
  refine ⟨n, he, hn, h3, ?_⟩
  have := h4 (by omega)
  rwa [show ((n + 1 : ℕ) : ℤ) - 127 = (n : ℤ) - 126 by push_cast; ring] at this

/-- The word the kernel goes on with: the field, or 126 where the field is zero, in place. -/
theorem word_eq (v : ℝ) {n : ℕ} (he : expo (v : EReal) = BitVec.ofNat 32 n) (hn : n ≤ 252) :
    word (v : EReal) = BitVec.ofNat 32 ((if n = 0 then 126 else n) * 8388608) := by
  unfold word
  rw [he, shl_word _ (by omega)]
  by_cases h : n = 0
  · subst h; rfl
  · rw [if_neg h, if_neg]
    intro h'
    have := congrArg BitVec.toNat h'
    rw [BitVec.toNat_ofNat] at this
    simp at this
    omega

/-! ## The reference's exponent -/

/-- The constant 126. -/
theorem c126 : Ideal.ofBits .f32 1123811328#32 = ((126 : ℝ) : EReal) := by
  simp [Ideal.ofBits, Ideal.ieee]; rw [← EReal.coe_mul]; norm_num
/-- The constant 128. -/
theorem c128 : Ideal.ofBits .f32 1124073472#32 = ((128 : ℝ) : EReal) := by
  have := ofBits_pow 134 (by omega) (by omega)
  rw [show (2 : ℝ) ^ (((134 : ℕ) : ℤ) - 127) = 128 by norm_num] at this
  exact this
/-- The constant infinity. -/
theorem cinf : Ideal.ofBits .f32 2139095040#32 = ⊤ := ofBits_top
/-- The constant `2 ^ -126`. -/
theorem ctiny : Ideal.ofBits .f32 8388608#32 = (((2 : ℝ) ^ (-126 : ℤ) : ℝ) : EReal) := by
  have := ofBits_pow 1 (by omega) (by omega)
  simpa using this

/-- The reference's `k`-th candidate exponent is `k - 126`. -/
theorem cand_eq (k : Fin 256) : cand k = (((k.val : ℝ) - 126 : ℝ) : EReal) := by
  unfold cand
  rw [c126]
  have : (FloatOps.sitofp (F := Ideal) .f32 (BitVec.ofNat 32 k.val) : EReal) = ((k.val : ℝ) : EReal) := by
    show (((BitVec.ofNat 32 k.val).toInt : ℝ) : EReal) = _
    rw [BitVec.toInt_eq_toNat_of_lt (by rw [BitVec.toNat_ofNat]; omega), BitVec.toNat_ofNat, Nat.mod_eq_of_lt (by omega)]
    simp
  rw [this, EReal.coe_sub]

/-- The power of two of an integer. -/
theorem exp2_int (x : ℝ) (z : ℤ) (h : x = z) : Ideal.exp2 (x : EReal) = (((2 : ℝ) ^ z : ℝ) : EReal) := by
  rw [Ideal.exp2_coe, h]; congr 1; exact Real.rpow_intCast 2 z

/-- The reference's exponent, by the field that the kernel finds. -/
theorem rExp_eq (v : ℝ) {n : ℕ} (hn : n ≤ 252) (h1 : n = 0 ∨ (2 : ℝ) ^ ((n : ℤ) - 127) ≤ v) (h2 : v < (2 : ℝ) ^ ((n : ℤ) - 126)) :
    rExp (v : EReal) = (((if n = 0 then 0 else (n : ℝ) - 126) : ℝ) : EReal) := by
  unfold rExp
  rw [ctiny, cinf]
  by_cases h : n = 0
  · subst h
    rw [if_pos (EReal.coe_lt_coe_iff.mpr (by simpa using h2))]; simp
  · have h1 := h1.resolve_left h
    rw [if_neg h, if_neg]
    · have key : ∀ k : Fin 256, (if (v : EReal) < Ideal.exp2 (cand k) then cand k else Ideal.ofBits .f32 1124073472#32)
          = (((if n ≤ k.val then (k.val : ℝ) - 126 else 128) : ℝ) : EReal) := by
        intro k
        rw [cand_eq, c128, exp2_int _ ((k.val : ℤ) - 126) (by push_cast; ring)]
        by_cases hk : n ≤ k.val
        · rw [if_pos hk, if_pos]
          refine EReal.coe_lt_coe_iff.mpr (lt_of_lt_of_le h2 (zpow_le_zpow_right₀ (by norm_num) (by omega)))
        · rw [if_neg hk, if_neg]
          intro h'
          have h' := EReal.coe_lt_coe_iff.mp h'
          have : (2 : ℝ) ^ ((k.val : ℤ) - 126) ≤ (2 : ℝ) ^ ((n : ℤ) - 127) := zpow_le_zpow_right₀ (by norm_num) (by omega)
          linarith
      simp only [key]
      apply le_antisymm
      · refine (Finset.fold_min_le _).mpr (.inr ⟨⟨n, by omega⟩, Finset.mem_univ _, ?_⟩)
        simp
      · refine Finset.le_fold_min _ |>.mpr ⟨le_top, fun k _ => EReal.coe_le_coe_iff.mpr ?_⟩
        by_cases hk : n ≤ k.val
        · rw [if_pos hk]
          have : (n : ℝ) ≤ k.val := by exact_mod_cast hk
          linarith
        · rw [if_neg hk]
          have : (n : ℝ) ≤ 252 := by exact_mod_cast hn
          linarith
    · intro h'
      have h' := EReal.coe_lt_coe_iff.mp h'
      have : (2 : ℝ) ^ (-126 : ℤ) ≤ (2 : ℝ) ^ ((n : ℤ) - 127) := zpow_le_zpow_right₀ (by norm_num) (by omega)
      linarith

/-! ## The two agree -/

/-- The kernel's inverse scale is the reference's, for a maximum below `2 ^ 126`. -/
theorem inv_eq (v : ℝ) (hv : v < (2 : ℝ) ^ (126 : ℤ)) :
    Ideal.ofBits .f32 (IntOp.subi 2122317824#32 (word (v : EReal))) = Ideal.exp2 (0 - rExp (v : EReal)) := by
  obtain ⟨n, he, hn, h1, h2⟩ := expo_eq v hv
  rw [word_eq v he hn, rExp_eq v hn h1 h2]
  have hs : IntOp.subi 2122317824#32 (BitVec.ofNat 32 ((if n = 0 then 126 else n) * 8388608))
      = BitVec.ofNat 32 ((253 - (if n = 0 then 126 else n)) * 8388608) := by
    unfold IntOp.subi
    apply BitVec.eq_of_toNat_eq
    rw [BitVec.toNat_sub, BitVec.toNat_ofNat, BitVec.toNat_ofNat, BitVec.toNat_ofNat]
    split <;> omega
  rw [hs, ofBits_pow _ (by split <;> omega) (by omega), show (0 : EReal) = ((0 : ℝ) : EReal) from rfl, ← EReal.coe_sub]
  rw [exp2_int _ (if n = 0 then 0 else 126 - (n : ℤ)) (by split <;> simp)]
  congr 2
  split <;> omega

/-- The kernel's scale is the reference's, for a maximum below `2 ^ 126`. -/
theorem scale_eq (v : ℝ) (hv : v < (2 : ℝ) ^ (126 : ℤ)) :
    Ideal.ofBits .f32 (IntOp.addi (word (v : EReal)) 8388608#32) = Ideal.exp2 (rExp (v : EReal)) := by
  obtain ⟨n, he, hn, h1, h2⟩ := expo_eq v hv
  rw [word_eq v he hn, rExp_eq v hn h1 h2]
  have hs : IntOp.addi (BitVec.ofNat 32 ((if n = 0 then 126 else n) * 8388608)) 8388608#32
      = BitVec.ofNat 32 (((if n = 0 then 126 else n) + 1) * 8388608) := by
    rw [show (8388608#32 : BitVec 32) = BitVec.ofNat 32 8388608 from rfl, add_word, Nat.add_mul, Nat.one_mul]
  rw [hs, ofBits_pow _ (by omega) (by split <;> omega)]
  rw [exp2_int _ (if n = 0 then 0 else (n : ℤ) - 126) (by split <;> simp)]
  congr 2
  split <;> push_cast <;> omega

/-! ## The bounds -/

/-- The constant minus infinity. -/
theorem cninf : Ideal.ofBits .f32 4286578688#32 = ⊥ := by simp [Ideal.ofBits, Ideal.ieee]

/-- The constant nearest 1/448 lies between 0 and 1. -/
theorem crec : ∃ x : ℝ, Ideal.ofBits .f32 991054117#32 = (x : EReal) ∧ 0 ≤ x ∧ x ≤ 1 := by
  refine ⟨_, by simp [Ideal.ofBits, Ideal.ieee]; rw [← EReal.coe_mul], ?_, ?_⟩ <;> norm_num

/-- The maximum of a group bounded by 56 is a real number below `2 ^ 126`. -/
theorem amax_real (f : Fin 128 → EReal) (h : ∀ l, ((-56 : ℝ) : EReal) ≤ f l ∧ f l ≤ ((56 : ℝ) : EReal)) :
    ∃ v : ℝ, amax f = (v : EReal) ∧ v < (2 : ℝ) ^ (126 : ℤ) := by
  obtain ⟨x, hx, h0, h1⟩ := crec
  unfold amax
  rw [cninf, hx]
  have hlo : (0 : EReal) ≤ Finset.fold max ⊥ (fun x => (FloatOps.absf (F := Ideal) (φ := .f32) (f x) : EReal)) Finset.univ := by
    refine (Finset.le_fold_max _).mpr (.inr ⟨0, Finset.mem_univ _, ?_⟩)
    show 0 ≤ max (f 0) (-(f 0))
    rcases le_total 0 (f 0) with h | h
    · exact le_max_of_le_left h
    · exact le_max_of_le_right (EReal.neg_nonneg.mpr h)
  have hhi : Finset.fold max ⊥ (fun x => (FloatOps.absf (F := Ideal) (φ := .f32) (f x) : EReal)) Finset.univ ≤ ((56 : ℝ) : EReal) := by
    refine (Finset.fold_max_le _).mpr ⟨bot_le, fun l _ => ?_⟩
    show max (f l) (-(f l)) ≤ _
    refine max_le (h l).2 (EReal.neg_le.mpr ?_)
    have := (h l).1
    rwa [EReal.coe_neg] at this
  generalize Finset.fold max ⊥ (fun x => (FloatOps.absf (F := Ideal) (φ := .f32) (f x) : EReal)) Finset.univ = t at hlo hhi
  obtain ⟨r, rfl⟩ : ∃ r : ℝ, t = (r : EReal) :=
    ⟨t.toReal, (EReal.coe_toReal (fun h => by rw [h] at hhi; exact absurd hhi (by simp)) (fun h => by rw [h] at hlo; exact absurd hlo (by simp))).symm⟩
  have hr0 : 0 ≤ r := by exact_mod_cast hlo
  have hr1 : r ≤ 56 := EReal.coe_le_coe_iff.mp hhi
  refine ⟨r * x, by rw [EReal.coe_mul], ?_⟩
  have : r * x ≤ 56 * 1 := mul_le_mul hr1 h1 h0 (by norm_num)
  have : (56 : ℝ) * 1 < 2 ^ (126 : ℤ) := by norm_num
  linarith

/-- The kernel's codes are the reference's, for a group bounded by 56. -/
theorem code_eq (f : Fin 128 → EReal) (h : ∀ l, ((-56 : ℝ) : EReal) ≤ f l ∧ f l ≤ ((56 : ℝ) : EReal)) : kCode f = rCode f := by
  obtain ⟨v, hv, hlt⟩ := amax_real f h
  funext l
  unfold kCode rCode
  rw [hv, inv_eq v hlt]

/-- The kernel's scale is the reference's, for a group bounded by 56. -/
theorem scales_eq (f : Fin 128 → EReal) (h : ∀ l, ((-56 : ℝ) : EReal) ≤ f l ∧ f l ≤ ((56 : ℝ) : EReal)) : kScale f = rScale f := by
  obtain ⟨v, hv, hlt⟩ := amax_real f h
  unfold kScale rScale
  rw [hv, scale_eq v hlt]

/-- The constant 7. -/
theorem c7 : Ideal.ofBits .f32 1088421888#32 = ((7 : ℝ) : EReal) := by
  simp [Ideal.ofBits, Ideal.ieee]; rw [← EReal.coe_mul]; norm_num
/-- The constant -7. -/
theorem cm7 : Ideal.ofBits .f32 3235905536#32 = ((-7 : ℝ) : EReal) := by
  simp [Ideal.ofBits, Ideal.ieee]; rw [← EReal.coe_mul]; norm_num
/-- The constant 1.702 is a real number of at least one. -/
theorem calpha : ∃ a : ℝ, Ideal.ofBits .f32 1071242019#32 = (a : EReal) ∧ 1 ≤ a := by
  refine ⟨_, by simp [Ideal.ofBits, Ideal.ieee]; rw [← EReal.coe_mul], ?_⟩; norm_num

/-- The gate times its logistic lies between -1 and 7. -/
theorem gate_bound (a g : ℝ) (ha : 1 ≤ a) (hg : g ≤ 7) : -1 ≤ g * (1 + Real.exp (-(a * g)))⁻¹ ∧ g * (1 + Real.exp (-(a * g)))⁻¹ ≤ 7 := by
  have he := Real.exp_pos (-(a * g))
  have hp : 0 < 1 + Real.exp (-(a * g)) := by linarith
  have hi : (1 + Real.exp (-(a * g)))⁻¹ ≤ 1 := inv_le_one_of_one_le₀ (by linarith)
  have hi0 : 0 < (1 + Real.exp (-(a * g)))⁻¹ := inv_pos.mpr hp
  rcases le_total 0 g with h | h
  · constructor
    · have := mul_nonneg h hi0.le; linarith
    · calc g * (1 + Real.exp (-(a * g)))⁻¹ ≤ 7 * 1 := mul_le_mul hg hi hi0.le (by norm_num)
        _ = 7 := by norm_num
  · constructor
    · rw [← div_eq_mul_inv, le_div_iff₀ hp]
      have := Real.add_one_le_exp (-(a * g))
      nlinarith
    · have := mul_nonpos_of_nonpos_of_nonneg h hi0.le; linarith

/-- The activation is bounded by 56. -/
theorem act_bound (g u : EReal) : ((-56 : ℝ) : EReal) ≤ act g u ∧ act g u ≤ ((56 : ℝ) : EReal) := by
  obtain ⟨a, ha, ha1⟩ := calpha
  unfold act
  rw [c7, cm7, ha]
  obtain ⟨U, hU, h1, h2⟩ : ∃ U : ℝ, min ((7 : ℝ) : EReal) (max ((-7 : ℝ) : EReal) u) + 1 = (U : EReal) ∧ -6 ≤ U ∧ U ≤ 8 := by
    have hl : ((-7 : ℝ) : EReal) ≤ min ((7 : ℝ) : EReal) (max ((-7 : ℝ) : EReal) u) :=
      le_min (EReal.coe_le_coe_iff.mpr (by norm_num)) (le_max_left _ _)
    have hh : min ((7 : ℝ) : EReal) (max ((-7 : ℝ) : EReal) u) ≤ ((7 : ℝ) : EReal) := min_le_left _ _
    generalize min ((7 : ℝ) : EReal) (max ((-7 : ℝ) : EReal) u) = t at hl hh
    induction t with
    | bot => exact absurd hl (by simp)
    | coe r =>
      have := EReal.coe_le_coe_iff.mp hl
      have := EReal.coe_le_coe_iff.mp hh
      exact ⟨r + 1, by rw [EReal.coe_add]; rfl, by linarith, by linarith⟩
    | top => exact absurd hh (by simp)
  rw [hU]
  have hg : min g ((7 : ℝ) : EReal) ≤ ((7 : ℝ) : EReal) := min_le_right _ _
  generalize min g ((7 : ℝ) : EReal) = t at hg
  induction t with
  | bot =>
    rw [EReal.coe_mul_bot_of_pos (x := a) (by linarith), Ideal.logistic_bot, mul_zero]
    exact ⟨EReal.coe_le_coe_iff.mpr (show (-56 : ℝ) ≤ 0 by norm_num), EReal.coe_le_coe_iff.mpr (show (0 : ℝ) ≤ 56 by norm_num)⟩
  | coe r =>
    have hr := EReal.coe_le_coe_iff.mp hg
    rw [← EReal.coe_mul a r, Ideal.logistic_coe, ← EReal.coe_mul, ← EReal.coe_mul, EReal.coe_le_coe_iff, EReal.coe_le_coe_iff, mul_assoc]
    obtain ⟨b1, b2⟩ := gate_bound a r ha1 hr
    generalize r * (1 + Real.exp (-(a * r)))⁻¹ = y at b1 b2
    constructor <;> nlinarith
  | top => exact absurd hg (by simp)

end Cert.Quant

end
-- ==== Proof.Value.KPay.lean ====
/- What the kernel's arithmetic puts at one place of a tile: the two linear maps, the activation, and for each of the two groups
   of 128 columns the code and the scale of the kernel's quantiser. -/
module

public import proofs.«01_k».proof.Proof.Gen.KernelIdeal.Skeleton
public import proofs.«01_k».proof.Proof.Value.Quant
public import Idealize.ShloMosaic.Lib.WordCmp

@[expose] public section

set_option maxRecDepth 16384

noncomputable section

namespace Cert.KernelIdeal.KPay

open Cert.KernelIdeal Cert.KernelIdeal.Gen Cert.Quant
open Idealize.ShloMosaic Idealize.ShloMosaic.TcCoe

/-- The first linear map at a row and a column. -/
theorem pay7_at (v57 : Vec Ideal S256x3584 .fp8e4m3) (v59 : Vec Ideal S256x1 .f32) (v60 : Vec Ideal S1x3584x256 .fp8e4m3)
    (v68 : Vec Ideal S1x1x256 .f32) (v72 : Vec Ideal S1x1x256 .f32) (p : Fin 256) (l : Fin 256) :
    k0_pay7 (F := Ideal) v57 v59 v60 v68 v72 (ix2 p l)
      = ((∑ x : Fin 3584, (v57 (ix2 p x) : EReal) * v60 (ix3 0 x l)) * v59 (ix2 p 0) * v68 (ix3 0 0 l) + v72 (ix3 0 0 l) : EReal) := by
  pointwise [k0_pay7]

/-- The second linear map at a row and a column. -/
theorem pay8_at (v57 : Vec Ideal S256x3584 .fp8e4m3) (v59 : Vec Ideal S256x1 .f32) (v63 : Vec Ideal S1x3584x256 .fp8e4m3)
    (v78 : Vec Ideal S1x1x256 .f32) (v82 : Vec Ideal S1x1x256 .f32) (p : Fin 256) (l : Fin 256) :
    k0_pay8 (F := Ideal) v57 v59 v63 v78 v82 (ix2 p l)
      = ((∑ x : Fin 3584, (v57 (ix2 p x) : EReal) * v63 (ix3 0 x l)) * v59 (ix2 p 0) * v78 (ix3 0 0 l) + v82 (ix3 0 0 l) : EReal) := by
  pointwise [k0_pay8]

/-- The choice between two words by a comparison with zero. -/
theorem sel_eq (v a b : BitVec 32) : Scalar.select (IntOp.cmpi .eq v 0#32) a b = if v = 0#32 then a else b := by
  unfold Scalar.select
  rw [WordCmp.cmpi_eq_eq]
  by_cases h : v = 0#32 <;> simp [h]

/-- The kernel's constant 7. -/
abbrev c7 : Ideal .f32 := Scalar.ofBits (F := Ideal) .f32 0x40E00000#32

/-- The activation at a row and a column. -/
theorem pay9_at (v75 v85 : FVec Ideal S256x256 .f32) (p l : Fin 256) :
    k0_pay9 (F := Ideal) v75 v85 c7 (ix2 p l) = act (v75 (ix2 p l)) (v85 (ix2 p l)) := by
  pointwise [k0_pay9]
  rfl

/-- The first group of 128 columns at a row. -/
def grp0 (v75 v85 : FVec Ideal S256x256 .f32) (p : Fin 256) (l : Fin 128) : EReal :=
  act (v75 (ix2 p ⟨l.val, by omega⟩)) (v85 (ix2 p ⟨l.val, by omega⟩))

/-- The second group of 128 columns at a row. -/
def grp1 (v75 v85 : FVec Ideal S256x256 .f32) (p : Fin 256) (l : Fin 128) : EReal :=
  act (v75 (ix2 p ⟨128 + l.val, by omega⟩)) (v85 (ix2 p ⟨128 + l.val, by omega⟩))

/-- The activations of the first group of columns. -/
theorem pay13_at (v75 v85 : FVec Ideal S256x256 .f32) (p : Fin 256) (l : Fin 128) :
    k0_pay13 (F := Ideal) v75 v85 c7 (ix2 p l) = grp0 v75 v85 p l := by
  pointwise [k0_pay13, k0_pay9]
  rfl

/-- Their largest magnitude, over 448. -/
theorem pay14_at (v75 v85 : FVec Ideal S256x256 .f32) (p : Fin 256) :
    k0_pay14 (F := Ideal) v75 v85 c7 (ix2 p 0) = amax (grp0 v75 v85 p) := by
  have h : k0_pay14 (F := Ideal) v75 v85 c7 (ix2 p 0)
      = (Finset.fold max (Ideal.ofBits .f32 4286578688#32) (fun x => (FloatOps.absf (k0_pay13 (F := Ideal) v75 v85 c7 (ix2 p x)) : EReal)) Finset.univ * Ideal.ofBits .f32 991054117#32 : EReal) := by
    pointwise [k0_pay14]
  rw [h]
  simp only [pay13_at]
  rfl

/-- The first step of the search for its exponent field. -/
theorem pay15_at (v75 v85 : FVec Ideal S256x256 .f32) (p : Fin 256) :
    k0_pay15 (F := Ideal) v75 v85 c7 (ix2 p 0) = halve (amax (grp0 v75 v85 p)) 128#32 0#32 := by
  rw [← pay14_at]
  pointwise [k0_pay15]
  rfl

/-- The next five steps of the search. -/
theorem pay16_at (v124 : FVec Ideal S256x1 .f32) (v134 : IVec S256x1 32) (p : Fin 256) :
    k0_pay16 (F := Ideal) v124 v134 (ix2 p 0) = halve (v124 (ix2 p 0)) 4#32 (halve (v124 (ix2 p 0)) 8#32 (halve (v124 (ix2 p 0)) 16#32
      (halve (v124 (ix2 p 0)) 32#32 (halve (v124 (ix2 p 0)) 64#32 (v134 (ix2 p 0)))))) := by
  pointwise [k0_pay16]
  rfl

/-- The last two steps, shifted into place, with field 126 for a field of zero. -/
theorem pay17_at (v124 : FVec Ideal S256x1 .f32) (v179 : IVec S256x1 32) (p : Fin 256) :
    k0_pay17 (F := Ideal) v124 v179 (ix2 p 0)
      = if IntOp.shli .vector (halve (v124 (ix2 p 0)) 1#32 (halve (v124 (ix2 p 0)) 2#32 (v179 (ix2 p 0)))) 23#32 = 0#32 then 1056964608#32
        else IntOp.shli .vector (halve (v124 (ix2 p 0)) 1#32 (halve (v124 (ix2 p 0)) 2#32 (v179 (ix2 p 0)))) 23#32 := by
  pointwise [k0_pay17]
  rw [sel_eq]
  rfl

/-- The word of the first group. -/
theorem word0 (v75 v85 : FVec Ideal S256x256 .f32) (p : Fin 256) :
    k0_pay17 (F := Ideal) (k0_pay14 v75 v85 c7) (k0_pay16 (k0_pay14 v75 v85 c7) (k0_pay15 v75 v85 c7)) (ix2 p 0)
      = word (amax (grp0 v75 v85 p)) := by
  rw [pay17_at, pay16_at, pay15_at, pay14_at]
  rfl

/-- What the first store of codes puts at a row and a column. -/
theorem code0 (v106 : IVec S256x128 1) (v75 v85 : FVec Ideal S256x256 .f32) (v217 : Vec Ideal S256x128 .fp8e4m3) (p : Fin 256) (l : Fin 128) :
    k0_pay19 (F := Ideal) v106 (k0_pay13 v75 v85 c7) (k0_pay14 v75 v85 c7)
        (k0_pay16 (k0_pay14 v75 v85 c7) (k0_pay15 v75 v85 c7)) v217 (ix2 p l)
      = Scalar.select (v106 (ix2 p l)) (kCode (grp0 v75 v85 p) l) (v217 (ix2 p l) : EReal) := by
  generalize hv : k0_pay16 (F := Ideal) (k0_pay14 v75 v85 c7) (k0_pay15 v75 v85 c7) = v179
  have h : k0_pay19 (F := Ideal) v106 (k0_pay13 v75 v85 c7) (k0_pay14 v75 v85 c7) v179 v217 (ix2 p l)
      = Scalar.select (v106 (ix2 p l)) (clip (k0_pay13 (F := Ideal) v75 v85 c7 (ix2 p l)
          * Ideal.ofBits .f32 (IntOp.subi 2122317824#32 (k0_pay17 (F := Ideal) (k0_pay14 v75 v85 c7) v179 (ix2 p 0))))) (v217 (ix2 p l) : EReal) := by
    pointwise [k0_pay19]
    rfl
  rw [h, pay13_at, ← hv, word0]
  rfl

/-- The scale of the first group at a row. -/
theorem scale0 (v75 v85 : FVec Ideal S256x256 .f32) (p : Fin 256) :
    k0_pay18 (F := Ideal) (k0_pay14 v75 v85 c7) (k0_pay16 (k0_pay14 v75 v85 c7) (k0_pay15 v75 v85 c7)) (ix2 p 0)
      = kScale (grp0 v75 v85 p) := by
  generalize hv : k0_pay16 (F := Ideal) (k0_pay14 v75 v85 c7) (k0_pay15 v75 v85 c7) = v179
  have h : k0_pay18 (F := Ideal) (k0_pay14 v75 v85 c7) v179 (ix2 p 0)
      = Ideal.ofBits .f32 (IntOp.addi (k0_pay17 (F := Ideal) (k0_pay14 v75 v85 c7) v179 (ix2 p 0)) 8388608#32) := by
    pointwise [k0_pay18]
  rw [h, ← hv, word0]
  rfl

/-- The activations of the second group of columns. -/
theorem pay21_at (v75 v85 : FVec Ideal S256x256 .f32) (p : Fin 256) (l : Fin 128) :
    k0_pay21 (F := Ideal) (k0_pay9 v75 v85 c7) (ix2 p l) = grp1 v75 v85 p l := by
  have h : ∀ v98 : FVec Ideal S256x256 .f32, k0_pay21 (F := Ideal) v98 (ix2 p l) = v98 (ix2 p ⟨128 + l.val, by omega⟩) := by
    intro v98
    pointwise [k0_pay21]
  rw [h, pay9_at]
  rfl

/-- Their largest magnitude, over 448. -/
theorem pay22_at (v75 v85 : FVec Ideal S256x256 .f32) (p : Fin 256) :
    k0_pay22 (F := Ideal) (k0_pay9 v75 v85 c7) (ix2 p 0) = amax (grp1 v75 v85 p) := by
  have h : ∀ v98 : FVec Ideal S256x256 .f32, k0_pay22 (F := Ideal) v98 (ix2 p 0)
      = (Finset.fold max (Ideal.ofBits .f32 4286578688#32) (fun x => (FloatOps.absf (k0_pay21 (F := Ideal) v98 (ix2 p x)) : EReal)) Finset.univ * Ideal.ofBits .f32 991054117#32 : EReal) := by
    intro v98
    pointwise [k0_pay22]
  rw [h]
  simp only [pay21_at]
  rfl

/-- The first three steps of the search for its exponent field. -/
theorem pay23_at (v98 : FVec Ideal S256x256 .f32) (p : Fin 256) :
    k0_pay23 (F := Ideal) v98 (ix2 p 0) = halve (k0_pay22 (F := Ideal) v98 (ix2 p 0)) 32#32 (halve (k0_pay22 (F := Ideal) v98 (ix2 p 0)) 64#32
      (halve (k0_pay22 (F := Ideal) v98 (ix2 p 0)) 128#32 0#32)) := by
  pointwise [k0_pay23]
  rfl

/-- The last five steps, shifted into place. -/
theorem pay25_at (v237 : FVec Ideal S256x1 .f32) (v98 : FVec Ideal S256x256 .f32) (p : Fin 256) :
    k0_pay25 (F := Ideal) v237 (k0_pay23 v98) (k0_pay24 v98) 23#32 (ix2 p 0)
      = IntOp.shli .vector (halve (v237 (ix2 p 0)) 1#32 (halve (v237 (ix2 p 0)) 2#32 (halve (v237 (ix2 p 0)) 4#32
          (halve (v237 (ix2 p 0)) 8#32 (halve (v237 (ix2 p 0)) 16#32 (k0_pay23 (F := Ideal) v98 (ix2 p 0))))))) 23#32 := by
  pointwise [k0_pay25, k0_pay24]
  rfl

/-- The word of the second group. -/
theorem word1 (v75 v85 : FVec Ideal S256x256 .f32) (p : Fin 256) :
    k0_pay1 (k0_pay25 (F := Ideal) (k0_pay22 (k0_pay9 v75 v85 c7)) (k0_pay23 (k0_pay9 v75 v85 c7)) (k0_pay24 (k0_pay9 v75 v85 c7)) 23#32) 0#32 (ix2 p 0)
      = word (amax (grp1 v75 v85 p)) := by
  have h : ∀ v : IVec S256x1 32, k0_pay1 v 0#32 (ix2 p 0) = if v (ix2 p 0) = 0#32 then 1056964608#32 else v (ix2 p 0) := by
    intro v
    pointwise [k0_pay1]
    exact sel_eq _ _ _
  rw [h, pay25_at, pay23_at, pay22_at]
  rfl

/-- What the second store of codes puts at a row and a column. -/
theorem code1 (v106 : IVec S256x128 1) (v75 v85 : FVec Ideal S256x256 .f32) (v330 : Vec Ideal S256x128 .fp8e4m3) (p : Fin 256) (l : Fin 128) :
    k0_pay2 (F := Ideal) v106 (k0_pay21 (k0_pay9 v75 v85 c7))
        (k0_pay25 (k0_pay22 (k0_pay9 v75 v85 c7)) (k0_pay23 (k0_pay9 v75 v85 c7)) (k0_pay24 (k0_pay9 v75 v85 c7)) 23#32) 0#32 v330 (ix2 p l)
      = Scalar.select (v106 (ix2 p l)) (kCode (grp1 v75 v85 p) l) (v330 (ix2 p l) : EReal) := by
  have h : ∀ (v232 : FVec Ideal S256x128 .f32) (v312 : IVec S256x1 32), k0_pay2 (F := Ideal) v106 v232 v312 0#32 v330 (ix2 p l)
      = Scalar.select (v106 (ix2 p l)) (clip (v232 (ix2 p l) * Ideal.ofBits .f32 (IntOp.subi 2122317824#32 (k0_pay1 v312 0#32 (ix2 p 0)))))
          (v330 (ix2 p l) : EReal) := by
    intro v232 v312
    pointwise [k0_pay2]
    rfl
  rw [h, pay21_at, word1]
  rfl

/-- The scales that the body loads are those it selects among. -/
theorem pay12_at (v117 : Vec Ideal S256x40 .f32) (p : Fin 256) (q : Fin 40) : k0_pay12 (F := Ideal) v117 (ix2 p q) = v117 (ix2 p q) := by
  pointwise [k0_pay12]

/-- What the store of scales puts at a row and a column. -/
theorem scale1 (arg0 : BitVec 32) (v107 : IVec S256x40 32) (v115 : IVec S256x40 1) (v75 v85 : FVec Ideal S256x256 .f32) (v117 : Vec Ideal S256x40 .f32) (p : Fin 256) (q : Fin 40) :
    k0_pay3 (F := Ideal) arg0 v107 v115
        (k0_pay20 arg0 v107 v115 (k0_pay12 v117) (k0_pay18 (k0_pay14 v75 v85 c7) (k0_pay16 (k0_pay14 v75 v85 c7) (k0_pay15 v75 v85 c7))))
        (k0_pay25 (k0_pay22 (k0_pay9 v75 v85 c7)) (k0_pay23 (k0_pay9 v75 v85 c7)) (k0_pay24 (k0_pay9 v75 v85 c7)) 23#32) 0#32 (ix2 p q)
      = Scalar.select (IntOp.andi (v115 (ix2 p q)) (IntOp.cmpi .eq (v107 (ix2 p q)) (Scalar.addi (Scalar.muli arg0 2#32) 1#32))) (kScale (grp1 v75 v85 p))
          (Scalar.select (IntOp.andi (v115 (ix2 p q)) (IntOp.cmpi .eq (v107 (ix2 p q)) (Scalar.addi (Scalar.muli arg0 2#32) 0#32))) (kScale (grp0 v75 v85 p))
            (v117 (ix2 p q) : EReal)) := by
  have h : ∀ (v231 : FVec Ideal S256x40 .f32) (v312 : IVec S256x1 32), k0_pay3 (F := Ideal) arg0 v107 v115 v231 v312 0#32 (ix2 p q)
      = Scalar.select (IntOp.andi (v115 (ix2 p q)) (IntOp.cmpi .eq (v107 (ix2 p q)) (Scalar.addi (Scalar.muli arg0 2#32) 1#32)))
          (Ideal.ofBits .f32 (IntOp.addi (k0_pay1 v312 0#32 (ix2 p 0)) 8388608#32) : EReal) (v231 (ix2 p q)) := by
    intro v231 v312
    pointwise [k0_pay3]
  have h' : ∀ (v118 : FVec Ideal S256x40 .f32) (v206 : FVec Ideal S256x1 .f32), k0_pay20 (F := Ideal) arg0 v107 v115 v118 v206 (ix2 p q)
      = Scalar.select (IntOp.andi (v115 (ix2 p q)) (IntOp.cmpi .eq (v107 (ix2 p q)) (Scalar.addi (Scalar.muli arg0 2#32) 0#32)))
          (v206 (ix2 p 0) : EReal) (v118 (ix2 p q)) := by
    intro v118 v206
    pointwise [k0_pay20]
  rw [h, h', word1, scale0, pay12_at]
  rfl

/-- The live rows of a tile. -/
theorem pay10_at (a b c : BitVec 32) (p : Fin 256) (l : Fin 128) : k0_pay10 (F := Ideal) a b c (ix2 p l)
    = IntOp.andi (IntOp.cmpi .sge (IntOp.addi c (BitVec.ofNat 32 p.val)) a) (IntOp.cmpi .slt (IntOp.addi c (BitVec.ofNat 32 p.val)) b) := by
  pointwise [k0_pay10]

/-- The live rows of a tile, repeated along the columns of the scales. -/
theorem pay11_at (a b c : BitVec 32) (p : Fin 256) (l : Fin 40) : k0_pay11 (F := Ideal) a b c (ix2 p l)
    = IntOp.andi (IntOp.cmpi .sge (IntOp.addi c (BitVec.ofNat 32 p.val)) a) (IntOp.cmpi .slt (IntOp.addi c (BitVec.ofNat 32 p.val)) b) := by
  pointwise [k0_pay11]

/-- A row of a tile is live exactly when it lies between the two ends. -/
theorem live_word {a b c p : ℕ} (ha : a ≤ 6144) (hb : b ≤ 6144) (hc : c + p < 2 ^ 31) :
    IntOp.andi (IntOp.cmpi .sge (IntOp.addi (BitVec.ofNat 32 c) (BitVec.ofNat 32 p)) (BitVec.ofNat 32 a))
        (IntOp.cmpi .slt (IntOp.addi (BitVec.ofNat 32 c) (BitVec.ofNat 32 p)) (BitVec.ofNat 32 b))
      = BitVec.ofBool (decide (a ≤ c + p ∧ c + p < b)) := by
  rw [add_word, WordCmp.cmpi_sge_eq, WordCmp.cmpi_slt_eq, WordCmp.andi_ofBool, WordCmp.toInt_ofNat_of_lt (by omega),
    WordCmp.toInt_ofNat_of_lt (by omega), WordCmp.toInt_ofNat_of_lt (by omega), Bool.decide_and]
  congr 2
  · exact decide_eq_decide.mpr (by omega)
  · exact decide_eq_decide.mpr (by omega)

/-- A selection by a decided condition. -/
theorem select_ofBool {α : Type} (q : Prop) [Decidable q] (x y : α) : Scalar.select (BitVec.ofBool (decide q)) x y = if q then x else y := by
  unfold Scalar.select
  by_cases h : q <;> simp [h]

/-- A column is the one that a group's scale goes to. -/
theorem col_word {n q s : ℕ} (hn : n < 20) (hs : s < 2) (hq : q < 40) :
    IntOp.cmpi .eq (BitVec.ofNat 32 q) (Scalar.addi (Scalar.muli (BitVec.ofNat 32 n) 2#32) (BitVec.ofNat 32 s))
      = BitVec.ofBool (decide (q = n * 2 + s)) := by
  have h : Scalar.addi (Scalar.muli (BitVec.ofNat 32 n) 2#32) (BitVec.ofNat 32 s) = BitVec.ofNat 32 (n * 2 + s) := by
    apply BitVec.eq_of_toNat_eq
    simp [Scalar.addi, Scalar.muli, IntOp.addi, IntOp.muli, BitVec.toNat_add, BitVec.toNat_mul]
  rw [h, WordCmp.cmpi_eq_eq]
  congr 1
  exact decide_eq_decide.mpr (WordCmp.ofNat_eq_ofNat_iff (by omega) (by omega))

end Cert.KernelIdeal.KPay

end
-- ==== Proof.Value.Trip.lean ====
/- One trip of the kernel's loop over row tiles: on the rows of its tile between the two ends of the group it puts the codes and
   the scales of those rows, and it leaves every other place as it was. -/
module

public import proofs.«01_k».proof.Proof.IFrame.Runs
public import proofs.«01_k».proof.Proof.Dev.Chk
public import proofs.«01_k».proof.Proof.Value.KPay
public import Idealize.ShloMosaic.Lib.WritesUnit

@[expose] public section

set_option maxRecDepth 16384

noncomputable section

namespace Cert.KernelIdeal.Trip

open Cert.KernelIdeal Cert.KernelIdeal.Gen Cert.KernelIdeal.Chk Cert.KernelIdeal.KPay Cert.Words Cert.Quant
open Idealize.ShloMosaic Idealize.ShloMosaic.TcCoe Idealize.ShloMosaic.Tactic

/-- A load through a unit-stride rectangle at a position reads the buffer at the offsets plus that position. -/
theorem readAt_at {κ : Kind} {sp : Space} {s : Shape} {e : EltTy} {Val : EltTy → Type} (v : View sig κ sp s e) (f : v.ty.Contents Val)
    {off size : Fin s.rank → ℕ} (inb : ∀ a, off a + size a ≤ s.size a) (x : (Rect.unit off size inb).shape.Idx) (y : s.Idx)
    {off' : Fin s.rank → ℕ} (heq : off = off') (h : ∀ a, (y a).val = off' a + (x a).val) : v.readAt Val (Rect.unit off size inb).toLoadRect f x = v.read Val f y := by
  subst heq
  rw [View.readAt_apply]
  refine congrArg (v.read Val f) (funext fun a => Fin.ext ?_)
  rw [h a]
  show off a + 1 * (x a).val = _
  rw [Nat.one_mul]

/-- The linear map of row `r` at column `l`: the sum of products, times the row's scale and the column's, plus the bias. -/
def lin (x : Vec Ideal S6144x3584 .fp8e4m3) (xs : Vec Ideal S6144x1 .f32) (w : Vec Ideal S1x3584x256 .fp8e4m3)
    (ws b : Vec Ideal S1x1x256 .f32) (r : Fin 6144) (l : Fin 256) : EReal :=
  (∑ k : Fin 3584, (x (ix2 r k) : EReal) * w (ix3 0 k l)) * xs (ix2 r 0) * ws (ix3 0 0 l) + b (ix3 0 0 l)

/-- The activations of row `r` in group `s` of 128 columns. -/
def grp (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (r : Fin 6144) (s : Fin 2) (l : Fin 128) : EReal :=
  act (lin x0 x1 x2 x4 x6 r ⟨s.val * 128 + l.val, by omega⟩) (lin x0 x1 x3 x5 x7 r ⟨s.val * 128 + l.val, by omega⟩)

/-- The code of row `r` at column `j`. -/
def code (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (r : Fin 6144) (j : Fin 256) : EReal :=
  kCode (grp x0 x1 x2 x3 x4 x5 x6 x7 r ⟨j.val / 128, by omega⟩) ⟨j.val % 128, by omega⟩

/-- The scale of row `r` in group `s` of 128 columns. -/
def scl (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (r : Fin 6144) (s : Fin 2) : EReal := kScale (grp x0 x1 x2 x3 x4 x5 x6 x7 r s)

section

variable {a b : ℕ}

/-- The first linear map of a tile, at a row of the tile. -/
theorem gate_at (ha : a ≤ 6144) (hb : b ≤ 6144) (k : Fin (k0_t1_loop (BitVec.ofNat 32 a) (BitVec.ofNat 32 b)).trips)
    (M0 : Memref sig .tc .vmem S6144x3584 .fp8e4m3) (h0 : M0.IsWhole) (M1 : Memref sig .tc .vmem S6144x1 .f32) (h1 : M1.IsWhole)
    (M2 : Memref sig .tc .vmem S1x3584x256 .fp8e4m3) (h2 : M2.IsWhole) (M4 : Memref sig .tc .vmem S1x1x256 .f32) (h4 : M4.IsWhole)
    (M6 : Memref sig .tc .vmem S1x1x256 .f32) (h6 : M6.IsWhole)
    (x0 : Vec Ideal S6144x3584 .fp8e4m3) (x1 : Vec Ideal S6144x1 .f32) (x2 : Vec Ideal S1x3584x256 .fp8e4m3) (x4 x6 : Vec Ideal S1x1x256 .f32)
    (i0 : ∀ d, k0_off3 (BitVec.ofNat 32 a) (BitVec.ofNat 32 b) k d + S256x3584.size d ≤ S6144x3584.size d)
    (i1 : ∀ d, k0_off4 (BitVec.ofNat 32 a) (BitVec.ofNat 32 b) k d + S256x1.size d ≤ S6144x1.size d)
    (r : Fin 6144) (p l : Fin 256) (hr : r.val = row0 a k.val + p.val) :
    k0_pay7 (F := Ideal) (M0.view.readAt (Elt Ideal) (Rect.unit (s := S6144x3584) (k0_off3 (BitVec.ofNat 32 a) (BitVec.ofNat 32 b) k) S256x3584.size i0).toLoadRect (h0.unread x0))
        (M1.view.readAt (Elt Ideal) (Rect.unit (s := S6144x1) (k0_off4 (BitVec.ofNat 32 a) (BitVec.ofNat 32 b) k) S256x1.size i1).toLoadRect (h1.unread x1))
        (M2.view.readAt (Elt Ideal) (Rect.unit (s := S1x3584x256) ![0, 0, 0] S1x3584x256.size inb_S1x3584x256_S1x3584x256_0_0_0).toLoadRect (h2.unread x2))
        (M4.view.readAt (Elt Ideal) (Rect.unit (s := S1x1x256) ![0, 0, 0] S1x1x256.size inb_S1x1x256_S1x1x256_0_0_0).toLoadRect (h4.unread x4))
        (M6.view.readAt (Elt Ideal) (Rect.unit (s := S1x1x256) ![0, 0, 0] S1x1x256.size inb_S1x1x256_S1x1x256_0_0_0).toLoadRect (h6.unread x6))
        (ix2 p l) = lin x0 x1 x2 x4 x6 r l := by
  rw [pay7_at]
  unfold lin
  have e0 : ∀ c : Fin 3584, M0.view.readAt (Elt Ideal) (Rect.unit (s := S6144x3584) (k0_off3 (BitVec.ofNat 32 a) (BitVec.ofNat 32 b) k) S256x3584.size i0).toLoadRect (h0.unread x0) (ix2 p c) = x0 (ix2 r c) := fun c => by
    rw [readAt_at _ _ i0 (ix2 p c) (ix2 r c) (off3_eq ha hb k) (by exact Fin.forall_fin_two.mpr ⟨hr, (Nat.zero_add _).symm⟩), h0.read_unread]
  have e1 : M1.view.readAt (Elt Ideal) (Rect.unit (s := S6144x1) (k0_off4 (BitVec.ofNat 32 a) (BitVec.ofNat 32 b) k) S256x1.size i1).toLoadRect (h1.unread x1) (ix2 p 0) = x1 (ix2 r 0) := by
    rw [readAt_at _ _ i1 (ix2 p 0) (ix2 r 0) (off4_eq ha hb k) (by exact Fin.forall_fin_two.mpr ⟨hr, (Nat.zero_add _).symm⟩), h1.read_unread]
  have e2 : ∀ c : Fin 3584, M2.view.readAt (Elt Ideal) (Rect.unit (s := S1x3584x256) ![0, 0, 0] S1x3584x256.size inb_S1x3584x256_S1x3584x256_0_0_0).toLoadRect (h2.unread x2) (ix3 0 c l) = x2 (ix3 0 c l) := fun c => by
    exact (readAt_at M2.view (h2.unread x2) inb_S1x3584x256_S1x3584x256_0_0_0 (ix3 0 c l) (ix3 0 c l) (off' := ![0, 0, 0]) rfl (fun d => by match d with | ⟨0, _⟩ => exact (Nat.zero_add _).symm | ⟨1, _⟩ => exact (Nat.zero_add _).symm | ⟨2, _⟩ => exact (Nat.zero_add _).symm)).trans (congrFun (h2.read_unread x2) _)
  have e4 : M4.view.readAt (Elt Ideal) (Rect.unit (s := S1x1x256) ![0, 0, 0] S1x1x256.size inb_S1x1x256_S1x1x256_0_0_0).toLoadRect (h4.unread x4) (ix3 0 0 l) = x4 (ix3 0 0 l) := by
    exact (readAt_at M4.view (h4.unread x4) inb_S1x1x256_S1x1x256_0_0_0 (ix3 0 0 l) (ix3 0 0 l) (off' := ![0, 0, 0]) rfl (fun d => by match d with | ⟨0, _⟩ => exact (Nat.zero_add _).symm | ⟨1, _⟩ => exact (Nat.zero_add _).symm | ⟨2, _⟩ => exact (Nat.zero_add _).symm)).trans (congrFun (h4.read_unread x4) _)
  have e6 : M6.view.readAt (Elt Ideal) (Rect.unit (s := S1x1x256) ![0, 0, 0] S1x1x256.size inb_S1x1x256_S1x1x256_0_0_0).toLoadRect (h6.unread x6) (ix3 0 0 l) = x6 (ix3 0 0 l) := by
    exact (readAt_at M6.view (h6.unread x6) inb_S1x1x256_S1x1x256_0_0_0 (ix3 0 0 l) (ix3 0 0 l) (off' := ![0, 0, 0]) rfl (fun d => by match d with | ⟨0, _⟩ => exact (Nat.zero_add _).symm | ⟨1, _⟩ => exact (Nat.zero_add _).symm | ⟨2, _⟩ => exact (Nat.zero_add _).symm)).trans (congrFun (h6.read_unread x6) _)
  rw [e1, e4, e6]
  simp only [e0, e2]

/-- The second linear map is the first one of other weights. -/
theorem pay8_eq : @k0_pay8 = @k0_pay7 := rfl

/-- The first row of a trip's tile, from the group's first tile. -/
theorem mask_word (ha : a ≤ 6144) (hb : b ≤ 6144) (k : Fin (k0_t1_loop (BitVec.ofNat 32 a) (BitVec.ofNat 32 b)).trips) :
    Scalar.minsi (Scalar.addi (Scalar.muli (BitVec.ofNat 32 (a / 32)) 32#32) (Scalar.muli (Scf.iv 0#32 1#32 k) 256#32)) 5888#32
      = BitVec.ofNat 32 (row0 a k.val) := by
  rcases first_word ha k.val with h | h
  · exact h
  · have h1 := k.isLt
    have h2 := trips_le (a := a) hb
    have h3 := trips_eq ha hb
    have h4 : k.val < trips a b := by rw [← h3]; exact h1
    omega

end

section

set_option maxHeartbeats 1000000 in
/-- What one trip leaves in the codes. -/
theorem trip_codes (𝒱 : Variants) (c : Dev nD) (bd : Option 𝒱.V) (i : grid0.Coords) (arg2 : Memref sig .tc .smem S5 .i32) (harg2 : arg2.IsWhole) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole) {n a b : ℕ} (hn : n < 20) (ha : a ≤ 6144) (hb : b ≤ 6144) (k0_hw1 : k0_chk1 (BitVec.ofNat 32 a) (BitVec.ofNat 32 b)) (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32)(v22 : BitVec 32) (k : Fin (k0_t1_loop (BitVec.ofNat 32 a) (BitVec.ofNat 32 b)).trips) (acc : BitVec 32) (f_arg11 : BufTy.Contents (Elt Ideal) arg11.view.ty) (f_arg12 : BufTy.Contents (Elt Ideal) arg12.view.ty)
    (hv : v22 = Scalar.muli (BitVec.ofNat 32 (a / 32)) 32#32) (r : Fin 6144) (j : Fin 256) :
    arg11.view.read (Elt Ideal) (arg11.view.writes (Elt Ideal) f_arg11 (tripL_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 n) (BitVec.ofNat 32 a) (BitVec.ofNat 32 b) k0_hw1 v22 (harg3.unread x0) (harg4.unread x1) (harg5.unread x2) (harg6.unread x3) (harg7.unread x4) (harg8.unread x5) (harg9.unread x6) (harg10.unread x7) k acc f_arg11 f_arg12).1) (ix2 r j)
      = if (a ≤ r.val ∧ r.val < b) ∧ row0 a k.val ≤ r.val ∧ r.val < row0 a k.val + 256 then (code x0 x1 x2 x3 x4 x5 x6 x7 r j : EReal)
        else arg11.view.read (Elt Ideal) f_arg11 (ix2 r j) := by
  unfold tripL_k0_t1 trip_k0_t1
  dsimp only
  sl_unfold_run_names
  have hrow := row0_le a k.val
  by_cases hr : row0 a k.val ≤ r.val ∧ r.val < row0 a k.val + 256
  · obtain ⟨p, hp⟩ : ∃ p : Fin 256, r.val = row0 a k.val + p.val := ⟨⟨r.val - row0 a k.val, by omega⟩, by show _ = _ + (_ - _); omega⟩
    have hmask : ∀ l : Fin 128, k0_pay10 (F := Ideal) (BitVec.ofNat 32 a) (BitVec.ofNat 32 b)
        (Scalar.minsi (Scalar.addi v22 (Scalar.muli (Scf.iv 0#32 1#32 k) 256#32)) 5888#32) (ix2 p l) = BitVec.ofBool (decide (a ≤ r.val ∧ r.val < b)) := fun l => by
      rw [pay10_at, hv, mask_word ha hb k, live_word ha hb (by omega), hp]
    by_cases hj : 128 ≤ j.val
    · obtain ⟨l, hl⟩ : ∃ l : Fin 128, j.val = 128 + l.val := ⟨⟨j.val - 128, by omega⟩, by show _ = 128 + (_ - 128); omega⟩
      refine (View.read_writes_cons_unit_of_mem _ _ _ _ _ (ix2 r j) (ix2 p l) (off7_eq ha hb k) (by exact Fin.forall_fin_two.mpr ⟨hp, hl⟩)).trans ?_
      refine (code1 _ _ _ _ p l).trans ?_
      refine (congrArg (fun z => Scalar.select z _ _) (hmask l)).trans ?_
      rw [select_ofBool]
      refine if_congr ⟨fun h => ⟨h, hr⟩, fun h => h.1⟩ ?_ ?_
      · unfold code
        have hs : (⟨j.val / 128, by omega⟩ : Fin 2) = 1 := Fin.ext (by show j.val / 128 = 1; omega)
        have hm : (⟨j.val % 128, by omega⟩ : Fin 128) = l := Fin.ext (by show j.val % 128 = l.val; omega)
        rw [hs, hm]
        refine congrArg (fun f => kCode f l) (funext fun q => ?_)
        unfold grp1 grp
        rw [pay8_eq]
        rw [gate_at ha hb k _ _ _ _ _ _ _ _ _ _ _ _ _ _ _ _ _ r p _ hp, gate_at ha hb k _ _ _ _ _ _ _ _ _ _ _ _ _ _ _ _ _ r p _ hp]
        rfl
      · refine Eq.trans (readAt_at _ _ _ (ix2 p l) (ix2 r j) (off7_eq ha hb k) (by exact Fin.forall_fin_two.mpr ⟨hp, hl⟩)) ?_
        refine (View.read_writes_cons_unit_of_not_mem _ _ _ _ _ _ (off6_eq ha hb k) 1 (.inr hj)).trans ?_
        rw [View.writes_nil]
    · refine (View.read_writes_cons_unit_of_not_mem _ _ _ _ _ _ (off7_eq ha hb k) 1 (.inl (by show j.val < 128; omega))).trans ?_
      obtain ⟨l, hl⟩ : ∃ l : Fin 128, j.val = l.val := ⟨⟨j.val, by omega⟩, rfl⟩
      refine (View.read_writes_cons_unit_of_mem _ _ _ _ _ (ix2 r j) (ix2 p l) (off6_eq ha hb k) (by exact Fin.forall_fin_two.mpr ⟨hp, by rw [show (ix2 r j : S6144x256.Idx) 1 = j from rfl, hl]; exact (Nat.zero_add _).symm⟩)).trans ?_
      refine (code0 _ _ _ _ p l).trans ?_
      refine (congrArg (fun z => Scalar.select z _ _) (hmask l)).trans ?_
      rw [select_ofBool]
      refine if_congr ⟨fun h => ⟨h, hr⟩, fun h => h.1⟩ ?_ ?_
      · unfold code
        have hs : (⟨j.val / 128, by omega⟩ : Fin 2) = 0 := Fin.ext (by show j.val / 128 = 0; omega)
        have hm : (⟨j.val % 128, by omega⟩ : Fin 128) = l := Fin.ext (by show j.val % 128 = l.val; omega)
        rw [hs, hm]
        refine congrArg (fun f => kCode f l) (funext fun q => ?_)
        unfold grp0 grp
        rw [pay8_eq]
        rw [gate_at ha hb k _ _ _ _ _ _ _ _ _ _ _ _ _ _ _ _ _ r p _ hp, gate_at ha hb k _ _ _ _ _ _ _ _ _ _ _ _ _ _ _ _ _ r p _ hp]
        congr 2 <;> exact Fin.ext (by show q.val = 0 * 128 + q.val; omega)
      · exact readAt_at _ _ _ (ix2 p l) (ix2 r j) (off6_eq ha hb k) (by exact Fin.forall_fin_two.mpr ⟨hp, by rw [show (ix2 r j : S6144x256.Idx) 1 = j from rfl, hl]; exact (Nat.zero_add _).symm⟩)
  · have hr' : r.val < row0 a k.val ∨ row0 a k.val + 256 ≤ r.val := by omega
    rw [if_neg (fun h => hr h.2)]
    refine (View.read_writes_cons_unit_of_not_mem _ _ _ _ _ _ (off7_eq ha hb k) 0 hr').trans ?_
    refine (View.read_writes_cons_unit_of_not_mem _ _ _ _ _ _ (off6_eq ha hb k) 0 hr').trans ?_
    rw [View.writes_nil]

set_option maxHeartbeats 1000000 in
/-- What one trip leaves in the scales. -/
theorem trip_scales (𝒱 : Variants) (c : Dev nD) (bd : Option 𝒱.V) (i : grid0.Coords) (arg2 : Memref sig .tc .smem S5 .i32) (harg2 : arg2.IsWhole) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole) {n a b : ℕ} (hn : n < 20) (ha : a ≤ 6144) (hb : b ≤ 6144) (k0_hw1 : k0_chk1 (BitVec.ofNat 32 a) (BitVec.ofNat 32 b)) (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32)(v22 : BitVec 32) (k : Fin (k0_t1_loop (BitVec.ofNat 32 a) (BitVec.ofNat 32 b)).trips) (acc : BitVec 32) (f_arg11 : BufTy.Contents (Elt Ideal) arg11.view.ty) (f_arg12 : BufTy.Contents (Elt Ideal) arg12.view.ty)
    (hv : v22 = Scalar.muli (BitVec.ofNat 32 (a / 32)) 32#32) (r : Fin 6144) (q : Fin 40) :
    arg12.view.read (Elt Ideal) (arg12.view.writes (Elt Ideal) f_arg12 (tripL_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 n) (BitVec.ofNat 32 a) (BitVec.ofNat 32 b) k0_hw1 v22 (harg3.unread x0) (harg4.unread x1) (harg5.unread x2) (harg6.unread x3) (harg7.unread x4) (harg8.unread x5) (harg9.unread x6) (harg10.unread x7) k acc f_arg11 f_arg12).2) (ix2 r q)
      = if ((a ≤ r.val ∧ r.val < b) ∧ row0 a k.val ≤ r.val ∧ r.val < row0 a k.val + 256) ∧ q.val / 2 = n then
          (scl x0 x1 x2 x3 x4 x5 x6 x7 r ⟨q.val % 2, by omega⟩ : EReal)
        else arg12.view.read (Elt Ideal) f_arg12 (ix2 r q) := by
  unfold tripL_k0_t1 trip_k0_t1
  dsimp only
  sl_unfold_run_names
  have hrow := row0_le a k.val
  by_cases hr : row0 a k.val ≤ r.val ∧ r.val < row0 a k.val + 256
  · obtain ⟨p, hp⟩ : ∃ p : Fin 256, r.val = row0 a k.val + p.val := ⟨⟨r.val - row0 a k.val, by omega⟩, by show _ = _ + (_ - _); omega⟩
    have hmask : k0_pay11 (F := Ideal) (BitVec.ofNat 32 a) (BitVec.ofNat 32 b)
        (Scalar.minsi (Scalar.addi v22 (Scalar.muli (Scf.iv 0#32 1#32 k) 256#32)) 5888#32) (ix2 p q) = BitVec.ofBool (decide (a ≤ r.val ∧ r.val < b)) := by
      rw [pay11_at, hv, mask_word ha hb k, live_word ha hb (by omega), hp]
    have hi : ∀ h, iota .tc S256x40 32 [1] h (ix2 p q) = BitVec.ofNat 32 q.val := fun h => by pointwise
    have hc0 := col_word (s := 0) hn (by omega) q.isLt
    have hc1 := col_word (s := 1) hn (by omega) q.isLt
    refine (View.read_writes_cons_unit_of_mem _ _ _ _ _ (ix2 r q) (ix2 p q) (off5_eq ha hb k) (by exact Fin.forall_fin_two.mpr ⟨hp, (Nat.zero_add _).symm⟩)).trans ?_
    refine (scale1 _ _ _ _ _ _ p q).trans ?_
    have hold : ∀ i5, arg12.view.readAt (Elt Ideal) (Rect.unit (s := S6144x40) (k0_off5 (BitVec.ofNat 32 a) (BitVec.ofNat 32 b) k) S256x40.size i5).toLoadRect f_arg12 (ix2 p q)
        = arg12.view.read (Elt Ideal) f_arg12 (ix2 r q) := fun i5 =>
      readAt_at _ _ _ (ix2 p q) (ix2 r q) (off5_eq ha hb k) (by exact Fin.forall_fin_two.mpr ⟨hp, (Nat.zero_add _).symm⟩)
    have hg : ∀ (G U : FVec Ideal S256x256 .f32), (∀ l, G (ix2 p l) = lin x0 x1 x2 x4 x6 r l) → (∀ l, U (ix2 p l) = lin x0 x1 x3 x5 x7 r l) →
        kScale (grp1 G U p) = scl x0 x1 x2 x3 x4 x5 x6 x7 r 1 ∧ kScale (grp0 G U p) = scl x0 x1 x2 x3 x4 x5 x6 x7 r 0 := by
      intro G U hG hU
      refine ⟨congrArg kScale (funext fun l => ?_), congrArg kScale (funext fun l => ?_)⟩
      · unfold grp1 grp
        rw [hG, hU]
        rfl
      · unfold grp0 grp
        rw [hG, hU]
        congr 2 <;> exact Fin.ext (by show l.val = 0 * 128 + l.val; omega)
    rw [pay8_eq]
    rw [(hg _ _ (fun l => gate_at ha hb k _ harg3 _ harg4 _ harg5 _ harg7 _ harg9 x0 x1 x2 x4 x6 _ _ r p l hp)
      (fun l => gate_at ha hb k _ harg3 _ harg4 _ harg6 _ harg8 _ harg10 x0 x1 x3 x5 x7 _ _ r p l hp)).1,
      (hg _ _ (fun l => gate_at ha hb k _ harg3 _ harg4 _ harg5 _ harg7 _ harg9 x0 x1 x2 x4 x6 _ _ r p l hp)
      (fun l => gate_at ha hb k _ harg3 _ harg4 _ harg6 _ harg8 _ harg10 x0 x1 x3 x5 x7 _ _ r p l hp)).2, hmask, hi, hc0, hc1,
      WordCmp.andi_ofBool, WordCmp.andi_ofBool, ← Bool.decide_and, ← Bool.decide_and, select_ofBool, select_ofBool, hold]
    by_cases h1 : a ≤ r.val ∧ r.val < b
    · by_cases h2 : q.val / 2 = n
      · rw [if_pos (show ((a ≤ r.val ∧ r.val < b) ∧ row0 a k.val ≤ r.val ∧ r.val < row0 a k.val + 256) ∧ q.val / 2 = n from ⟨⟨h1, hr⟩, h2⟩)]
        by_cases h3 : q.val = n * 2 + 1
        · rw [if_pos ⟨h1, h3⟩]
          congr 1
          exact Fin.ext (by show 1 = q.val % 2; omega)
        · rw [if_neg (fun h => h3 h.2), if_pos ⟨h1, by omega⟩]
          congr 1
          exact Fin.ext (by show 0 = q.val % 2; omega)
      · rw [if_neg (show ¬(((a ≤ r.val ∧ r.val < b) ∧ row0 a k.val ≤ r.val ∧ r.val < row0 a k.val + 256) ∧ q.val / 2 = n) from fun h => h2 h.2),
          if_neg (fun h => h2 (by omega)), if_neg (fun h => h2 (by omega))]
    · simp only [h1, false_and, if_false]
  · have hr' : r.val < row0 a k.val ∨ row0 a k.val + 256 ≤ r.val := by omega
    rw [if_neg (fun h => hr h.1.2)]
    refine (View.read_writes_cons_unit_of_not_mem _ _ _ _ _ _ (off5_eq ha hb k) 0 hr').trans ?_
    rw [View.writes_nil]

end

end Cert.KernelIdeal.Trip

end
-- ==== Proof.Value.Loop.lean ====
/- The kernel's loop over row tiles, all trips together: the codes and the scales of every row of the group are put, and every
   other place is left as it was. -/
module

public import proofs.«01_k».proof.Proof.Value.Trip

@[expose] public section

set_option maxRecDepth 16384

noncomputable section

namespace Cert.KernelIdeal.Loop

open Cert.KernelIdeal Cert.KernelIdeal.Gen Cert.KernelIdeal.Chk Cert.KernelIdeal.KPay Cert.KernelIdeal.Trip Cert.Words Cert.Quant
open Idealize.ShloMosaic Idealize.ShloMosaic.TcCoe Idealize.ShloMosaic.Tactic

/-- A row of the group lies below the tile after trip `k` just when it lies in trip `k`'s tile or below it. -/
theorem step_iff {a k r : ℕ} (hr : r < 6144) :
    r < first a + 256 * (k + 1) ↔ (row0 a k ≤ r ∧ r < row0 a k + 256) ∨ r < first a + 256 * k := by
  unfold row0
  omega

/-- What the trips before trip `k` leave in the codes. -/
theorem st_codes (𝒱 : Variants) (c : Dev nD) (bd : Option 𝒱.V) (i : grid0.Coords) (arg2 : Memref sig .tc .smem S5 .i32) (harg2 : arg2.IsWhole) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole) {n a b : ℕ} (hn : n < 20) (ha : a ≤ 6144) (hb : b ≤ 6144) (k0_hw1 : k0_chk1 (BitVec.ofNat 32 a) (BitVec.ofNat 32 b)) (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (v22 : BitVec 32) (G8 : BufTy.Contents (Elt Ideal) arg11.view.ty) (G9 : BufTy.Contents (Elt Ideal) arg12.view.ty) (init : BitVec 32)
    (hv : v22 = Scalar.muli (BitVec.ofNat 32 (a / 32)) 32#32) (r : Fin 6144) (j : Fin 256) (k : ℕ) (hk : k ≤ (k0_t1_loop (BitVec.ofNat 32 a) (BitVec.ofNat 32 b)).trips) :
    arg11.view.read (Elt Ideal) (arg11.view.writes (Elt Ideal) G8 (st_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 n) (BitVec.ofNat 32 a) (BitVec.ofNat 32 b) k0_hw1 v22 (harg3.unread x0) (harg4.unread x1) (harg5.unread x2) (harg6.unread x3) (harg7.unread x4) (harg8.unread x5) (harg9.unread x6) (harg10.unread x7) G8 G9 init k).2.1) (ix2 r j)
      = if (a ≤ r.val ∧ r.val < b) ∧ r.val < first a + 256 * k then (code x0 x1 x2 x3 x4 x5 x6 x7 r j : EReal) else arg11.view.read (Elt Ideal) G8 (ix2 r j) := by
  induction k with
  | zero =>
    rw [if_neg (by unfold first; omega)]
    rfl
  | succ k ih =>
    rw [st_k0_t1_succ (k := ⟨k, hk⟩), View.writes_append, trip_codes (hv := hv) (hn := hn) (ha := ha) (hb := hb), ih (by omega)]
    have h := step_iff (a := a) (k := k) r.isLt
    by_cases h0 : a ≤ r.val ∧ r.val < b
    · by_cases h1 : row0 a k ≤ r.val ∧ r.val < row0 a k + 256
      · rw [if_pos ⟨h0, h1⟩, if_pos ⟨h0, h.mpr (.inl h1)⟩]
      · rw [if_neg (fun h' => h1 h'.2)]
        exact if_congr ⟨fun h' => ⟨h0, h.mpr (.inr h'.2)⟩, fun h' => ⟨h0, (h.mp h'.2).resolve_left h1⟩⟩ rfl rfl
    · simp only [h0, false_and, if_false]

/-- What the trips before trip `k` leave in the scales. -/
theorem st_scales (𝒱 : Variants) (c : Dev nD) (bd : Option 𝒱.V) (i : grid0.Coords) (arg2 : Memref sig .tc .smem S5 .i32) (harg2 : arg2.IsWhole) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole) {n a b : ℕ} (hn : n < 20) (ha : a ≤ 6144) (hb : b ≤ 6144) (k0_hw1 : k0_chk1 (BitVec.ofNat 32 a) (BitVec.ofNat 32 b)) (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (v22 : BitVec 32) (G8 : BufTy.Contents (Elt Ideal) arg11.view.ty) (G9 : BufTy.Contents (Elt Ideal) arg12.view.ty) (init : BitVec 32)
    (hv : v22 = Scalar.muli (BitVec.ofNat 32 (a / 32)) 32#32) (r : Fin 6144) (q : Fin 40) (k : ℕ) (hk : k ≤ (k0_t1_loop (BitVec.ofNat 32 a) (BitVec.ofNat 32 b)).trips) :
    arg12.view.read (Elt Ideal) (arg12.view.writes (Elt Ideal) G9 (st_k0_t1 (F := Ideal) 𝒱 c bd i arg2 harg2 arg3 harg3 arg4 harg4 arg5 harg5 arg6 harg6 arg7 harg7 arg8 harg8 arg9 harg9 arg10 harg10 arg11 harg11 arg12 harg12 (BitVec.ofNat 32 n) (BitVec.ofNat 32 a) (BitVec.ofNat 32 b) k0_hw1 v22 (harg3.unread x0) (harg4.unread x1) (harg5.unread x2) (harg6.unread x3) (harg7.unread x4) (harg8.unread x5) (harg9.unread x6) (harg10.unread x7) G8 G9 init k).2.2) (ix2 r q)
      = if ((a ≤ r.val ∧ r.val < b) ∧ r.val < first a + 256 * k) ∧ q.val / 2 = n then (scl x0 x1 x2 x3 x4 x5 x6 x7 r ⟨q.val % 2, by omega⟩ : EReal) else arg12.view.read (Elt Ideal) G9 (ix2 r q) := by
  induction k with
  | zero =>
    rw [if_neg (by unfold first; omega)]
    rfl
  | succ k ih =>
    rw [st_k0_t1_succ (k := ⟨k, hk⟩), View.writes_append, trip_scales (hv := hv) (hn := hn) (ha := ha) (hb := hb), ih (by omega)]
    have h := step_iff (a := a) (k := k) r.isLt
    by_cases h0 : a ≤ r.val ∧ r.val < b
    · by_cases h2 : q.val / 2 = n
      · by_cases h1 : row0 a k ≤ r.val ∧ r.val < row0 a k + 256
        · rw [if_pos ⟨⟨h0, h1⟩, h2⟩, if_pos ⟨⟨h0, h.mpr (.inl h1)⟩, h2⟩]
        · rw [if_neg (fun h' => h1 h'.1.2)]
          exact if_congr ⟨fun h' => ⟨⟨h0, h.mpr (.inr h'.1.2)⟩, h2⟩, fun h' => ⟨⟨h0, (h.mp h'.1.2).resolve_left h1⟩, h2⟩⟩ rfl rfl
      · simp only [h2, and_false, if_false]
    · simp only [h0, false_and, if_false]

/-- What the whole loop leaves in the codes: the code at the rows of the group, the former contents elsewhere. -/
theorem all_codes (𝒱 : Variants) (c : Dev nD) (bd : Option 𝒱.V) (i : grid0.Coords) (arg2 : Memref sig .tc .smem S5 .i32) (harg2 : arg2.IsWhole) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole) {n a b : ℕ} (hn : n < 20) (ha : a ≤ 6144) (hb : b ≤ 6144) {v0 v1 v4 : BitVec 32} (h0 : v0 = BitVec.ofNat 32 n) (h1 : v1 = BitVec.ofNat 32 a) (h4 : v4 = BitVec.ofNat 32 b) (k0_hw1 : k0_chk1 v1 v4) (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (v22 : BitVec 32) (G8 : BufTy.Contents (Elt Ideal) arg11.view.ty) (G9 : BufTy.Contents (Elt Ideal) arg12.view.ty) (init : BitVec 32)
    (hv : v22 = Scalar.muli (BitVec.ofNat 32 (a / 32)) 32#32) (r : Fin 6144) (j : Fin 256) :
    arg11.view.read (Elt Ideal) (arg11.view.writes (Elt Ideal) G8 (st_k0_t1 (F := Ideal) 𝒱 c bd i arg2 harg2 arg3 harg3 arg4 harg4 arg5 harg5 arg6 harg6 arg7 harg7 arg8 harg8 arg9 harg9 arg10 harg10 arg11 harg11 arg12 harg12 v0 v1 v4 k0_hw1 v22 (harg3.unread x0) (harg4.unread x1) (harg5.unread x2) (harg6.unread x3) (harg7.unread x4) (harg8.unread x5) (harg9.unread x6) (harg10.unread x7) G8 G9 init (k0_t1_loop v1 v4).trips).2.1) (ix2 r j)
      = if a ≤ r.val ∧ r.val < b then (code x0 x1 x2 x3 x4 x5 x6 x7 r j : EReal) else arg11.view.read (Elt Ideal) G8 (ix2 r j) := by
  subst h0 h1 h4
  rw [st_codes (hv := hv) (hn := hn) (ha := ha) (hb := hb) (hk := le_rfl), trips_eq ha hb]
  exact if_congr ⟨fun h => h.1, fun h => ⟨h, by have := lt_first_trips h.1 h.2; omega⟩⟩ rfl rfl

/-- What the whole loop leaves in the scales: the scale at the rows of the group in the two columns of this tile of columns, the former
    contents elsewhere. -/
theorem all_scales (𝒱 : Variants) (c : Dev nD) (bd : Option 𝒱.V) (i : grid0.Coords) (arg2 : Memref sig .tc .smem S5 .i32) (harg2 : arg2.IsWhole) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole) {n a b : ℕ} (hn : n < 20) (ha : a ≤ 6144) (hb : b ≤ 6144) {v0 v1 v4 : BitVec 32} (h0 : v0 = BitVec.ofNat 32 n) (h1 : v1 = BitVec.ofNat 32 a) (h4 : v4 = BitVec.ofNat 32 b) (k0_hw1 : k0_chk1 v1 v4) (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (v22 : BitVec 32) (G8 : BufTy.Contents (Elt Ideal) arg11.view.ty) (G9 : BufTy.Contents (Elt Ideal) arg12.view.ty) (init : BitVec 32)
    (hv : v22 = Scalar.muli (BitVec.ofNat 32 (a / 32)) 32#32) (r : Fin 6144) (q : Fin 40) :
    arg12.view.read (Elt Ideal) (arg12.view.writes (Elt Ideal) G9 (st_k0_t1 (F := Ideal) 𝒱 c bd i arg2 harg2 arg3 harg3 arg4 harg4 arg5 harg5 arg6 harg6 arg7 harg7 arg8 harg8 arg9 harg9 arg10 harg10 arg11 harg11 arg12 harg12 v0 v1 v4 k0_hw1 v22 (harg3.unread x0) (harg4.unread x1) (harg5.unread x2) (harg6.unread x3) (harg7.unread x4) (harg8.unread x5) (harg9.unread x6) (harg10.unread x7) G8 G9 init (k0_t1_loop v1 v4).trips).2.2) (ix2 r q)
      = if (a ≤ r.val ∧ r.val < b) ∧ q.val / 2 = n then (scl x0 x1 x2 x3 x4 x5 x6 x7 r ⟨q.val % 2, by omega⟩ : EReal) else arg12.view.read (Elt Ideal) G9 (ix2 r q) := by
  subst h0 h1 h4
  rw [st_scales (hv := hv) (hn := hn) (ha := ha) (hb := hb) (hk := le_rfl), trips_eq ha hb]
  exact if_congr ⟨fun h => ⟨h.1.1, h.2⟩, fun h => ⟨⟨h.1, by have := lt_first_trips h.1.1 h.1.2; omega⟩, h.2⟩⟩ rfl rfl

end Cert.KernelIdeal.Loop

end
-- ==== Proof.Value.RunV.lean ====
/- The run of `KernelIdeal`'s body, value by value: from the staged blocks and given contents of the two output buffers, it gives the
   inputs back unchanged and the outputs with the codes and scales of the group's rows put in. -/
module

public import proofs.«01_k».proof.Proof.Value.Loop

@[expose] public section

-- membership in a rectangle of production extents (`View.cover_of_tiled`): the elaborator's structural look
-- recurses once per coordinate of the long axes
set_option maxRecDepth 16384

noncomputable section

namespace Cert.KernelIdeal.RunV

open Cert.KernelIdeal Cert.KernelIdeal.Gen Cert.KernelIdeal.Trip Cert.KernelIdeal.Loop Cert.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's run: the inputs' buffers keep their contents; a row of the group `a ≤ r < b` gets its codes in the first output, and its
    two scales in the columns `2n`, `2n+1` of the second; every other place of the outputs keeps what it held. -/
theorem kernelRun (c : Dev nD) (i : grid0.Coords) (arg3 : Memref sig .tc .vmem S6144x3584 .fp8e4m3) (harg3 : arg3.IsWhole) (arg4 : Memref sig .tc .vmem S6144x1 .f32) (harg4 : arg4.IsWhole) (arg5 : Memref sig .tc .vmem S1x3584x256 .fp8e4m3) (harg5 : arg5.IsWhole) (arg6 : Memref sig .tc .vmem S1x3584x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S6144x256 .fp8e4m3) (harg11 : arg11.IsWhole) (arg12 : Memref sig .tc .vmem S6144x40 .f32) (harg12 : arg12.IsWhole)
    (x0 : Vec Ideal S6144x3584 .fp8e4m3) (x1 : Vec Ideal S6144x1 .f32) (x2 : Vec Ideal S1x3584x256 .fp8e4m3) (x3 : Vec Ideal S1x3584x256 .fp8e4m3) (x4 : Vec Ideal S1x1x256 .f32) (x5 : Vec Ideal S1x1x256 .f32) (x6 : Vec Ideal S1x1x256 .f32) (x7 : Vec Ideal S1x1x256 .f32) (xt0 : TbBuf0 (F := Ideal) c tbM0_0) (k0_hw1 : k0_chk1 (tbM0_0.view.readAt (Elt Ideal) (Rect.unit (s := S5) (k0_off1 i) S1.size (k0_off1_inb i)).toLoadRect xt0 (Shape.Idx.first (numel1_S1.symm ▸ Nat.one_pos))) (tbM0_0.view.readAt (Elt Ideal) (Rect.unit (s := S5) (k0_off2 i) S1.size (k0_off2_inb i)).toLoadRect xt0 (Shape.Idx.first (numel1_S1.symm ▸ Nat.one_pos))))
    (d8 : Vec Ideal S6144x256 .fp8e4m3) (d9 : Vec Ideal S6144x40 .f32) {n a b : ℕ} (hn : n < 20) (ha : a ≤ 6144) (hb : b ≤ 6144) (hi : (i 0).val = n)
    (hlo : (tbM0_0.view.readAt (Elt Ideal) (Rect.unit (s := S5) (k0_off1 i) S1.size (k0_off1_inb i)).toLoadRect xt0 (Shape.Idx.first (numel1_S1.symm ▸ Nat.one_pos))) = BitVec.ofNat 32 a) (hhi : (tbM0_0.view.readAt (Elt Ideal) (Rect.unit (s := S5) (k0_off2 i) S1.size (k0_off2_inb i)).toLoadRect xt0 (Shape.Idx.first (numel1_S1.symm ▸ Nat.one_pos))) = BitVec.ofNat 32 b) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ owns (c : Thread nD τ) arg12 fullShare d9 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ X, ⌜∀ (r : Fin 6144) (j : Fin 256), X (ix2 r j) = if a ≤ r.val ∧ r.val < b then (code x0 x1 x2 x3 x4 x5 x6 x7 r j : EReal) else d8 (ix2 r j)⌝ ∗ owns (c : Thread nD τ) arg11 fullShare X) ∗ (∃ X, ⌜∀ (r : Fin 6144) (q : Fin 40), X (ix2 r q) = if (a ≤ r.val ∧ r.val < b) ∧ q.val / 2 = n then (scl x0 x1 x2 x3 x4 x5 x6 x7 r ⟨q.val % 2, by omega⟩ : EReal) else d9 (ix2 r q)⌝ ∗ owns (c : Thread nD τ) arg12 fullShare X) ∗ tbPt0 c tbM0_0 xt0) -∗ K ⟨⟩))
          ⊢ wp frame (wpE (defs₀ (F := Ideal)) Variants.none c none) E (cc0_moe_gate_up i tbM0_0 htbM0_0 arg3 harg3 arg4 harg4 arg5 harg5 arg6 harg6 arg7 harg7 arg8 harg8 arg9 harg9 arg10 harg10 arg11 harg11 arg12 harg12) K := by
    intro E K
    simp only [cc0_moe_gate_up_eq_skeleton]; unfold cc0_moe_gate_up_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap
      · iexists _; isplitr; swap; · iexact H8
        ipureintro; rfl
      ipureintro
      intro r j
      rw [← hf8]
      refine all_codes _ _ _ _ _ _ _ _ _ _ _ _ _ _ _ _ _ _ _ _ _ _ _ _ _ _ hn ha hb (congrArg _ hi) hlo hhi _ _ _ _ _ _ _ _ _ _ _ _ _ ?_ r j
      sl_unfold_run_names
      rw [hlo]
      exact congrArg (fun z => Scalar.muli z 32#32) (floorDiv (a := a) (d := 32) (by omega) (by decide) (by decide))
    isplitl [H9]
    · iexists _; isplitr; swap
      · iexists _; isplitr; swap; · iexact H9
        ipureintro; rfl
      ipureintro
      intro r q
      rw [← hf9]
      refine all_scales _ _ _ _ _ _ _ _ _ _ _ _ _ _ _ _ _ _ _ _ _ _ _ _ _ _ hn ha hb (congrArg _ hi) hlo hhi _ _ _ _ _ _ _ _ _ _ _ _ _ ?_ r q
      sl_unfold_run_names
      rw [hlo]
      exact congrArg (fun z => Scalar.muli z 32#32) (floorDiv (a := a) (d := 32) (by omega) (by decide) (by decide))
    iexact HT0

end Cert.KernelIdeal.RunV

end
-- ==== Proof.Value.Pipe.lean ====
/- The pipeline of `KernelIdeal` with its outputs held to what they contain: after each grid point the staged block of codes, and the
   staged array of scales, hold the values of every row whose group has been visited. -/
module

public import proofs.«01_k».proof.Proof.Value.RunV
public import proofs.«01_k».proof.Proof.Dev.Ends
public import Idealize.ShloMosaic.Lib.Pipeline.DatRel

@[expose] public section

-- the windows' blocks have long axes
set_option maxRecDepth 16384

noncomputable section

namespace Cert.KernelIdeal.Pipe

open Cert.KernelIdeal Cert.KernelIdeal.Gen Cert.KernelIdeal.Trip Cert.Sizes

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- Grid point `t` visits column block `t / 4` … -/
theorem coord0 : ∀ t : Fin grid0.N, (grid0.coords t 0).val = t.val / 4 := by decide +kernel
/-- … and group `t % 4`. -/
theorem coord1 : ∀ t : Fin grid0.N, (grid0.coords t 1).val = t.val % 4 := by decide +kernel

/-- The code that the body computes at point `t` for row `r`, column `j` of the block. -/
def qc (hO : Ok m) (c : Dev nD) (t : Fin (cfgM m hO).N) (r : Fin 6144) (j : Fin 256) : EReal :=
  code (iblk m hO c 0 t) (iblk m hO c 1 t) (iblk m hO c 2 t) (iblk m hO c 3 t) (iblk m hO c 4 t) (iblk m hO c 5 t) (iblk m hO c 6 t) (iblk m hO c 7 t) r j

/-- The scale that the body computes at point `t` for row `r` and half `s` of the block. -/
def qs (hO : Ok m) (c : Dev nD) (t : Fin (cfgM m hO).N) (r : Fin 6144) (s : Fin 2) : EReal :=
  scl (iblk m hO c 0 t) (iblk m hO c 1 t) (iblk m hO c 2 t) (iblk m hO c 3 t) (iblk m hO c 4 t) (iblk m hO c 5 t) (iblk m hO c 6 t) (iblk m hO c 7 t) r s

/-- The codes' block after point `t`: every row of a group visited since the block began holds that group's code. -/
def Rl8 (hO : Ok m) (g : ℕ → ℕ) (c : Dev nD) (t : Fin (cfgM m hO).N) (X : Vec Ideal S6144x256 .fp8e4m3) : Prop :=
  ∀ t' : Fin (cfgM m hO).N, t'.val ≤ t.val → t'.val / 4 = t.val / 4 → ∀ (r : Fin 6144) (j : Fin 256),
    ends g (t'.val % 4) ≤ r.val → r.val < ends g (t'.val % 4 + 1) → (X (ix2 r j) : EReal) = qc m hO c t' r j

/-- The scales after point `t`: every row of a visited group holds its scales in the visited columns. -/
def Rl9 (hO : Ok m) (g : ℕ → ℕ) (c : Dev nD) (t : Fin (cfgM m hO).N) (X : Vec Ideal S6144x40 .f32) : Prop :=
  ∀ t' : Fin (cfgM m hO).N, t'.val ≤ t.val → ∀ (r : Fin 6144) (q : Fin 40),
    ends g (t'.val % 4) ≤ r.val → r.val < ends g (t'.val % 4 + 1) → q.val / 2 = t'.val / 4 →
      (X (ix2 r q) : EReal) = qs m hO c t' r ⟨q.val % 2, by omega⟩

/-- The two predicates, by window. -/
def Rl (hO : Ok m) (g : ℕ → ℕ) (c : Dev nD) (w : Fin (cfgM m hO).W) : Fin (cfgM m hO).N → (((cfgM m hO).win w).block.Idx → Elt Ideal ((cfgM m hO).win w).elt) → Prop :=
  match w with
  | ⟨8, _⟩ => fun t X => Rl8 m hO g c t X
  | ⟨9, _⟩ => fun t X => Rl9 m hO g c t X
  | _ => fun _ _ => True

/-- Two groups that share a row are the same group. -/
theorem group_unique {g : ℕ → ℕ} {a b r : ℕ} (h1 : ends g a ≤ r) (h2 : r < ends g (a + 1)) (h3 : ends g b ≤ r) (h4 : r < ends g (b + 1)) : a = b := by
  rcases Nat.lt_trichotomy a b with h | h | h
  · have := ends_mono g (show a + 1 ≤ b from h); omega
  · exact h
  · have := ends_mono g (show b + 1 ≤ a from h); omega

/-- The codes' block, one point on. -/
theorem step8 (hO : Ok m) {g : ℕ → ℕ} {c : Dev nD} {t : Fin (cfgM m hO).N} {X Y : Vec Ideal S6144x256 .fp8e4m3}
    (hY : t.val % 4 = 0 ∨ ∃ t0 : Fin (cfgM m hO).N, t0.val + 1 = t.val ∧ Rl8 m hO g c t0 Y)
    (hX : ∀ (r : Fin 6144) (j : Fin 256), (X (ix2 r j) : EReal) = if ends g (t.val % 4) ≤ r.val ∧ r.val < ends g (t.val % 4 + 1) then qc m hO c t r j else Y (ix2 r j)) :
    Rl8 m hO g c t X := by
  intro t' hle hdiv r j h1 h2
  rw [hX]
  by_cases he : t' = t
  · subst he; rw [if_pos ⟨h1, h2⟩]
  · have hne : t'.val ≠ t.val := fun h => he (Fin.ext h)
    rcases hY with h0 | ⟨t0, ht0, hR⟩
    · omega
    · rw [if_neg fun h => ?_]
      · exact hR t' (by omega) (by omega) r j h1 h2
      · have := group_unique h1 h2 h.1 h.2; omega

/-- The scales, one point on. -/
theorem step9 (hO : Ok m) {g : ℕ → ℕ} {c : Dev nD} {t : Fin (cfgM m hO).N} {X Y : Vec Ideal S6144x40 .f32}
    (hY : t.val = 0 ∨ ∃ t0 : Fin (cfgM m hO).N, t0.val + 1 = t.val ∧ Rl9 m hO g c t0 Y)
    (hX : ∀ (r : Fin 6144) (q : Fin 40), (X (ix2 r q) : EReal) = if (ends g (t.val % 4) ≤ r.val ∧ r.val < ends g (t.val % 4 + 1)) ∧ q.val / 2 = t.val / 4 then qs m hO c t r ⟨q.val % 2, by omega⟩ else Y (ix2 r q)) :
    Rl9 m hO g c t X := by
  intro t' hle r q h1 h2 hq
  rw [hX]
  by_cases he : t' = t
  · subst he; rw [if_pos ⟨⟨h1, h2⟩, hq⟩]
  · have hne : t'.val ≠ t.val := fun h => he (Fin.ext h)
    rcases hY with h0 | ⟨t0, ht0, hR⟩
    · omega
    · rw [if_neg fun h => ?_]
      · exact hR t' (by omega) r q h1 h2 hq
      · have := group_unique h1 h2 h.1.1 h.1.2; omega

/-- The relational proof data: the exact data, the outputs held to `Rl`. -/
abbrev rdat (hO : Ok m) (hH : Hyps m hO) (g : ℕ → ℕ) (c : Dev nD) := (dats m hO hH 0 c).toRRel forgets0 (Rl m hO g c)

/-- What the body may find in the codes' block: at the first group anything, later what the point before left. -/
theorem finds8 (hO : Ok m) (hH : Hyps m hO) {g : ℕ → ℕ} {c : Dev nD} {t : Fin (cfgM m hO).N} {Y : Vec Ideal S6144x256 .fp8e4m3}
    (h : (rdat m hO hH g c).Finds (8 : Fin (cfgM m hO).W) t Y) :
    t.val % 4 = 0 ∨ ∃ t0 : Fin (cfgM m hO).N, t0.val + 1 = t.val ∧ Rl8 m hO g c t0 Y := by
  by_cases h0 : t.val % 4 = 0
  · exact .inl h0
  have ht : t.val ≠ 0 := fun h => h0 (by rw [h])
  have h' := ((rdat m hO hH g c).finds_of_pos (w := (8 : Fin (cfgM m hO).W)) rfl ht Y).mp h
  rcases h' with hf | hl
  · have := (flush0_8 (adm m hO) _).mp hf
    simp only at this
    omega
  · exact .inr ⟨⟨t.val - 1, by omega⟩, by simp only; omega, (dats m hO hH 0 c).toRRel_leaves rfl hl⟩

/-- What the body may find in the scales: at the first point anything, later what the point before left. -/
theorem finds9 (hO : Ok m) (hH : Hyps m hO) {g : ℕ → ℕ} {c : Dev nD} {t : Fin (cfgM m hO).N} {Y : Vec Ideal S6144x40 .f32}
    (h : (rdat m hO hH g c).Finds (9 : Fin (cfgM m hO).W) t Y) :
    t.val = 0 ∨ ∃ t0 : Fin (cfgM m hO).N, t0.val + 1 = t.val ∧ Rl9 m hO g c t0 Y := by
  by_cases ht : t.val = 0
  · exact .inl ht
  have h' := ((rdat m hO hH g c).finds_of_pos (w := (9 : Fin (cfgM m hO).W)) rfl ht Y).mp h
  have hN : t.val < 80 := t.isLt
  rcases h' with hf | hl
  · have := (flush0_9 (adm m hO) _).mp hf
    simp only at this
    omega
  · exact .inr ⟨⟨t.val - 1, by omega⟩, by simp only; omega, (dats m hO hH 0 c).toRRel_leaves rfl hl⟩

/-- What the body is called with at point `t`, -/
def pre (hO : Ok m) (hH : Hyps m hO) (g : ℕ → ℕ) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ Y, ⌜(rdat m hO hH g c).Finds (8 : Fin (cfgM m hO).W) t Y⌝ ∗ owns (c : Thread nD τ) (ms0_8 m hO t) fullShare Y)
    ∗ (∃ Y, ⌜(rdat m hO hH g c).Finds (9 : Fin (cfgM m hO).W) t Y⌝ ∗ owns (c : Thread nD τ) (ms0_9 m hO t) fullShare Y))

/-- and what it returns. -/
def post (hO : Ok m) (hH : Hyps m hO) (g : ℕ → ℕ) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ X, ⌜Rl8 m hO g c t X⌝ ∗ owns (c : Thread nD τ) (ms0_8 m hO t) fullShare X)
    ∗ (∃ X, ⌜Rl9 m hO g c t X⌝ ∗ owns (c : Thread nD τ) (ms0_9 m hO t) fullShare X))

set_option maxHeartbeats 800000 in
/-- The body at any point: from what it may find, what `Rl` says of the point. -/
theorem sound (hO : Ok m) (hH : Hyps m hO) {g : ℕ → ℕ} (hS : Sizes (m (((0 : Dev nD) : Thread nD τ).loc main_arg5)) g) (c : Dev nD) (t : Fin (cfgM m hO).N) :
    pre m hO hH g c t ⊢ wp frame (wpE (defs₀ (F := Ideal)) Variants.none c none) Set.univ (bodyAt0 (adm m hO) t) (fun _ => post m hO hH g c t) := by
  unfold pre post bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %hd8, H8⟩, ⟨%d9, %hd9, H9⟩⟩
  have hN : t.val < 80 := t.isLt
  have hlo := Ends.lo_word m hS (grid0.coords t)
  have hhi := Ends.hi_word m hS (grid0.coords t)
  rw [coord1 t] at hlo hhi
  iapply (RunV.kernelRun c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t) d8 d9 (by omega) (ends_le hS (by omega)) (ends_le hS (by omega)) (coord0 t) hlo hhi Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HT0]; · iexact HT0
  iintro ⟨H0, H1, H2, H3, H4, H5, H6, H7, ⟨%X8, %h8, H8⟩, ⟨%X9, %h9, H9⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists X8; isplitr
    · ipureintro; exact step8 m hO (finds8 m hO hH hd8) h8
    iexact H8
  iexists X9; isplitr
  · ipureintro; exact step9 m hO (finds9 m hO hH hd9) h9
  iexact H9

/-- The body obligation with the outputs held to `Rl`. -/
theorem obligation (hO : Ok m) (hH : Hyps m hO) {g : ℕ → ℕ} (hS : Sizes (m (((0 : Dev nD) : Thread nD τ).loc main_arg5)) g) (c : Dev nD) :
    BodyObligationRel (dats m hO hH 0 c) (defs₀ (F := Ideal)) Variants.none () Set.univ forgets0 (Rl m hO g c) := fun t => by
  rw [bigSep_W0, bigSep_W0, defs₀_row m hO]
  exact triple_restated (sound m hO hH hS c t) rfl .rfl fun _ => .rfl

-- the launch's implicit arguments are found by unifying its conclusion with this one, which takes unfolding plain definitions in a
-- metavariable's type
set_option backward.isDefEq.respectTransparency.types false in
/-- The run: every execution ends with each array holding what the relational data say it may. -/
theorem run (hO : Ok m) (hH : Hyps m hO) {g : ℕ → ℕ} (hS : Sizes (m (((0 : Dev nD) : Thread nD τ).loc main_arg5)) g) :
    θ_run defs (onTc (τ := τ) (main (F := Ideal))) (s₀ m ρ) (Pipeline.RDat.FramePost ((Pipeline.pin pcfgs fun _ => adm m hO) 0) (fun c => rdat m hO hH g c) (V m)) :=
  Pipeline.RDat.θ_run_frameP_track_shared (Q' := _) pcfgs (fun _ => adm m hO) (0 : Fin 1) launch₀0 defs₀ Variants.none (fun c => rdat m hO hH g c) m ρ main
    (hbody := fun c => (obligation m hO hH hS c).toRRel) (hq := fun _ _ _ => rfl)
    (howed := fun _ _ => rfl) (V := V m) (hmain := hmain m Variants.none) (hA := A_eq m hO hH) (hpf := V_pre m)
    (hin := fun _ => .rfl) (hout := fun c => by
      show iprop(Pipeline.ΦA spec0 c ∗ Pipeline.ΦT pre0 (tbl m) c) ⊢ (Pipeline.ΦA spec0 c : sProp 𝕄)
      iintro ⟨H, -⟩; iexact H)

end Cert.KernelIdeal.Pipe

end
-- ==== Proof.Value.Spec.lean ====
/- What both programs compute, place by place, of the arguments' entries: the linear map of a row with the weights of its group, the
   activations of a row's group of 128 columns; the two quantisers (`Cert.Quant`) then take such a group. -/
module

public import proofs.«01_k».proof.Proof.Value.Quant

@[expose] public section

noncomputable section

namespace Cert.Spec

open Cert.Quant

variable (x : Fin 6144 → Fin 3584 → EReal) (xs : Fin 6144 → EReal) (w : Fin 4 → Fin 3584 → Fin 10240 → EReal) (s b : Fin 4 → Fin 10240 → EReal)

/-- The linear map of row `r` at column `q`, with the weights of group `e`. -/
def lin (e : Fin 4) (r : Fin 6144) (q : Fin 10240) : EReal := (∑ k : Fin 3584, x r k * w e k q) * xs r * s e q + b e q

/-- The activations of row `r` in the 128 columns of block `p`. -/
def grp (e : Fin 4) (r : Fin 6144) (p : Fin 40) (l : Fin 128) : EReal :=
  act (lin x xs w s b e r ⟨p.val * 128 + l.val, by omega⟩) (lin x xs w s b e r ⟨5120 + (p.val * 128 + l.val), by omega⟩)

/-- The kernel's codes and the reference's are the same. -/
theorem codes (e : Fin 4) (r : Fin 6144) (p : Fin 40) (l : Fin 128) : kCode (grp x xs w s b e r p) l = rCode (grp x xs w s b e r p) l :=
  congrFun (code_eq _ fun _ => act_bound _ _) l

/-- The kernel's scales and the reference's are the same. -/
theorem scales (e : Fin 4) (r : Fin 6144) (p : Fin 40) : kScale (grp x xs w s b e r p) = rScale (grp x xs w s b e r p) :=
  scales_eq _ fun _ => act_bound _ _

end Cert.Spec

end
-- ==== Proof.Value.KBlocks.lean ====
/- The blocks that the kernel's windows stage, read at a place of the arguments' arrays. -/
module

public import proofs.«01_k».proof.Proof.Value.Pipe
public import proofs.«01_k».proof.Proof.Value.Spec
public import Idealize.ShloMosaic.Lib.Pointwise
public import Idealize.ShloMosaic.Lib.StableHlo.RunRead

@[expose] public section

set_option maxRecDepth 16384

noncomputable section

namespace Cert.KernelIdeal.KBlocks

open Cert.KernelIdeal Cert.KernelIdeal.Gen Cert.KernelIdeal.Pipe Cert.Sizes Cert.Quant
open Idealize.ShloMosaic Idealize.ShloMosaic.TcCoe

variable (m : (ℓ : Loc nD τ sig) → Buf (Elt Ideal) ℓ)

/-! ## The windows' index maps, by point -/

/-- The block index of the first half of the weights, scales and biases at a point. -/
theorem idx2 : ∀ t : Fin grid0.N, cc0_transform_2 (grid0.coords t) = ![t.val % 4, 0, t.val / 4] := by decide +kernel
/-- The block index of the second half of the weights, scales and biases at a point. -/
theorem idx3 : ∀ t : Fin grid0.N, cc0_transform_3 (grid0.coords t) = ![t.val % 4, 0, 20 + t.val / 4] := by decide +kernel

/-! ## The two reshaped arguments -/

/-- The region finds the weights' scales reshaped. -/
theorem V_main_v3 (c : Dev nD) : V m c main_v3 = shapeCast S4x1x10240 (m ((c : Thread nD τ).loc main_arg3)) shapeCasts_S4x10240_S4x1x10240 := by
  unfold V hostOps0 hostOps0_1 hostOps0_2
  simp only [List.flatten_cons, List.flatten_nil, List.append_nil, List.cons_append, List.nil_append]
  after_reads_simp
  rfl

/-- The region finds the biases reshaped. -/
theorem V_main_v4 (c : Dev nD) : V m c main_v4 = shapeCast S4x1x10240 (m ((c : Thread nD τ).loc main_arg4)) shapeCasts_S4x10240_S4x1x10240 := by
  unfold V hostOps0 hostOps0_1 hostOps0_2
  simp only [List.flatten_cons, List.flatten_nil, List.append_nil, List.cons_append, List.nil_append]
  after_reads_simp
  rfl

/-- The reshape keeps every value at its group and column. -/
theorem reshape_at (x : FVec Ideal S4x10240 .f32) (e : Fin 4) (q : Fin 10240) :
    shapeCast S4x1x10240 x shapeCasts_S4x10240_S4x1x10240 (ix3 e 0 q) = x (ix2 e q) := by
  pointwise

/-! ## The blocks -/

variable {m} (hO : Ok m) (c : Dev nD) (t : Fin (cfgM m hO).N)

/-- The block of the activations is the whole array. -/
theorem blk0 (r : Fin 6144) (k : Fin 3584) : iblk m hO c 0 t (ix2 r k) = m ((c : Thread nD τ).loc main_arg0) (ix2 r k) := by
  refine Eq.trans ?_ (congrFun (V_main_arg0 m c) _)
  refine congrArg (V m c main_arg0) (funext fun a => Fin.ext ((Pipeline.Window.rect_emb_val ((cfgM m hO).win 0) t (ix2 r k) a).trans ?_))
  match a with
  | ⟨0, _⟩ => show 0 * 6144 + r.val = r.val; omega
  | ⟨1, _⟩ => show 0 * 3584 + k.val = k.val; omega

/-- The block of the rows' scales is the whole array. -/
theorem blk1 (r : Fin 6144) : iblk m hO c 1 t (ix2 r 0) = m ((c : Thread nD τ).loc main_arg1) (ix2 r 0) := by
  refine Eq.trans ?_ (congrFun (V_main_arg1 m c) _)
  refine congrArg (V m c main_arg1) (funext fun a => Fin.ext ((Pipeline.Window.rect_emb_val ((cfgM m hO).win 1) t (ix2 r 0) a).trans ?_))
  match a with
  | ⟨0, _⟩ => show 0 * 6144 + r.val = r.val; omega
  | ⟨1, _⟩ => rfl

/-- There are 80 points. -/
theorem tlt : t.val < 80 := t.isLt

/-- The first block of weights: group `t % 4`, the 256 columns from `t / 4 * 256` of the gate's half. -/
theorem blk2 (k : Fin 3584) (j : Fin 256) : iblk m hO c 2 t (ix3 0 k j)
    = m ((c : Thread nD τ).loc main_arg2) (ix3 ⟨t.val % 4, by omega⟩ k ⟨t.val / 4 * 256 + j.val, by have := tlt hO t; omega⟩) := by
  refine Eq.trans ?_ (congrFun (V_main_arg2 m c) _)
  refine congrArg (V m c main_arg2) (funext fun a => Fin.ext ((Pipeline.Window.rect_emb_val ((cfgM m hO).win 2) t (ix3 0 k j) a).trans ?_))
  have h := idx2 t
  match a with
  | ⟨0, _⟩ => show cc0_transform_2 (grid0.coords t) 0 * 1 + 0 = t.val % 4; rw [h]; show t.val % 4 * 1 + 0 = _; omega
  | ⟨1, _⟩ => show cc0_transform_2 (grid0.coords t) 1 * 3584 + k.val = k.val; rw [h]; show 0 * 3584 + k.val = _; omega
  | ⟨2, _⟩ => show cc0_transform_2 (grid0.coords t) 2 * 256 + j.val = t.val / 4 * 256 + j.val; rw [h]; rfl

/-- The second block of weights: the same columns of the linear half. -/
theorem blk3 (k : Fin 3584) (j : Fin 256) : iblk m hO c 3 t (ix3 0 k j)
    = m ((c : Thread nD τ).loc main_arg2) (ix3 ⟨t.val % 4, by omega⟩ k ⟨5120 + (t.val / 4 * 256 + j.val), by have := tlt hO t; omega⟩) := by
  refine Eq.trans ?_ (congrFun (V_main_arg2 m c) _)
  refine congrArg (V m c main_arg2) (funext fun a => Fin.ext ((Pipeline.Window.rect_emb_val ((cfgM m hO).win 3) t (ix3 0 k j) a).trans ?_))
  have h := idx3 t
  match a with
  | ⟨0, _⟩ => show cc0_transform_3 (grid0.coords t) 0 * 1 + 0 = t.val % 4; rw [h]; show t.val % 4 * 1 + 0 = _; omega
  | ⟨1, _⟩ => show cc0_transform_3 (grid0.coords t) 1 * 3584 + k.val = k.val; rw [h]; show 0 * 3584 + k.val = _; omega
  | ⟨2, _⟩ => show cc0_transform_3 (grid0.coords t) 2 * 256 + j.val = 5120 + (t.val / 4 * 256 + j.val); rw [h]; show (20 + t.val / 4) * 256 + j.val = _; omega

/-- The first block of weights' scales. -/
theorem blk4 (j : Fin 256) : iblk m hO c 4 t (ix3 0 0 j)
    = m ((c : Thread nD τ).loc main_arg3) (ix2 ⟨t.val % 4, by omega⟩ ⟨t.val / 4 * 256 + j.val, by have := tlt hO t; omega⟩) := by
  refine Eq.trans ?_ ((congrFun (V_main_v3 m c) _).trans (reshape_at (m ((c : Thread nD τ).loc main_arg3)) ⟨t.val % 4, by omega⟩ ⟨t.val / 4 * 256 + j.val, by have := tlt hO t; omega⟩))
  refine congrArg (V m c main_v3) (funext fun a => Fin.ext ((Pipeline.Window.rect_emb_val ((cfgM m hO).win 4) t (ix3 0 0 j) a).trans ?_))
  have h := idx2 t
  match a with
  | ⟨0, _⟩ => show cc0_transform_2 (grid0.coords t) 0 * 1 + 0 = t.val % 4; rw [h]; show t.val % 4 * 1 + 0 = _; omega
  | ⟨1, _⟩ => show cc0_transform_2 (grid0.coords t) 1 * 1 + 0 = 0; rw [h]; rfl
  | ⟨2, _⟩ => show cc0_transform_2 (grid0.coords t) 2 * 256 + j.val = t.val / 4 * 256 + j.val; rw [h]; rfl

/-- The second block of weights' scales. -/
theorem blk5 (j : Fin 256) : iblk m hO c 5 t (ix3 0 0 j)
    = m ((c : Thread nD τ).loc main_arg3) (ix2 ⟨t.val % 4, by omega⟩ ⟨5120 + (t.val / 4 * 256 + j.val), by have := tlt hO t; omega⟩) := by
  refine Eq.trans ?_ ((congrFun (V_main_v3 m c) _).trans (reshape_at (m ((c : Thread nD τ).loc main_arg3)) ⟨t.val % 4, by omega⟩ ⟨5120 + (t.val / 4 * 256 + j.val), by have := tlt hO t; omega⟩))
  refine congrArg (V m c main_v3) (funext fun a => Fin.ext ((Pipeline.Window.rect_emb_val ((cfgM m hO).win 5) t (ix3 0 0 j) a).trans ?_))
  have h := idx3 t
  match a with
  | ⟨0, _⟩ => show cc0_transform_3 (grid0.coords t) 0 * 1 + 0 = t.val % 4; rw [h]; show t.val % 4 * 1 + 0 = _; omega
  | ⟨1, _⟩ => show cc0_transform_3 (grid0.coords t) 1 * 1 + 0 = 0; rw [h]; rfl
  | ⟨2, _⟩ => show cc0_transform_3 (grid0.coords t) 2 * 256 + j.val = 5120 + (t.val / 4 * 256 + j.val); rw [h]; show (20 + t.val / 4) * 256 + j.val = _; omega

/-- The first block of biases. -/
theorem blk6 (j : Fin 256) : iblk m hO c 6 t (ix3 0 0 j)
    = m ((c : Thread nD τ).loc main_arg4) (ix2 ⟨t.val % 4, by omega⟩ ⟨t.val / 4 * 256 + j.val, by have := tlt hO t; omega⟩) := by
  refine Eq.trans ?_ ((congrFun (V_main_v4 m c) _).trans (reshape_at (m ((c : Thread nD τ).loc main_arg4)) ⟨t.val % 4, by omega⟩ ⟨t.val / 4 * 256 + j.val, by have := tlt hO t; omega⟩))
  refine congrArg (V m c main_v4) (funext fun a => Fin.ext ((Pipeline.Window.rect_emb_val ((cfgM m hO).win 6) t (ix3 0 0 j) a).trans ?_))
  have h := idx2 t
  match a with
  | ⟨0, _⟩ => show cc0_transform_2 (grid0.coords t) 0 * 1 + 0 = t.val % 4; rw [h]; show t.val % 4 * 1 + 0 = _; omega
  | ⟨1, _⟩ => show cc0_transform_2 (grid0.coords t) 1 * 1 + 0 = 0; rw [h]; rfl
  | ⟨2, _⟩ => show cc0_transform_2 (grid0.coords t) 2 * 256 + j.val = t.val / 4 * 256 + j.val; rw [h]; rfl

/-- The second block of biases. -/
theorem blk7 (j : Fin 256) : iblk m hO c 7 t (ix3 0 0 j)
    = m ((c : Thread nD τ).loc main_arg4) (ix2 ⟨t.val % 4, by omega⟩ ⟨5120 + (t.val / 4 * 256 + j.val), by have := tlt hO t; omega⟩) := by
  refine Eq.trans ?_ ((congrFun (V_main_v4 m c) _).trans (reshape_at (m ((c : Thread nD τ).loc main_arg4)) ⟨t.val % 4, by omega⟩ ⟨5120 + (t.val / 4 * 256 + j.val), by have := tlt hO t; omega⟩))
  refine congrArg (V m c main_v4) (funext fun a => Fin.ext ((Pipeline.Window.rect_emb_val ((cfgM m hO).win 7) t (ix3 0 0 j) a).trans ?_))
  have h := idx3 t
  match a with
  | ⟨0, _⟩ => show cc0_transform_3 (grid0.coords t) 0 * 1 + 0 = t.val % 4; rw [h]; show t.val % 4 * 1 + 0 = _; omega
  | ⟨1, _⟩ => show cc0_transform_3 (grid0.coords t) 1 * 1 + 0 = 0; rw [h]; rfl
  | ⟨2, _⟩ => show cc0_transform_3 (grid0.coords t) 2 * 256 + j.val = 5120 + (t.val / 4 * 256 + j.val); rw [h]; show (20 + t.val / 4) * 256 + j.val = _; omega

/-! ## The values of a point -/

/-- The linear map of the launch arguments, by group, row and column. -/
abbrev lin (m : (ℓ : Loc nD τ sig) → Buf (Elt Ideal) ℓ) (c : Dev nD) : Fin 4 → Fin 6144 → Fin 10240 → EReal :=
  Spec.lin (fun r k => m ((c : Thread nD τ).loc main_arg0) (ix2 r k)) (fun r => m ((c : Thread nD τ).loc main_arg1) (ix2 r 0))
    (fun e k q => m ((c : Thread nD τ).loc main_arg2) (ix3 e k q)) (fun e q => m ((c : Thread nD τ).loc main_arg3) (ix2 e q))
    (fun e q => m ((c : Thread nD τ).loc main_arg4) (ix2 e q))

/-- The activations of the launch arguments, by group, row and block of columns. -/
abbrev grp (m : (ℓ : Loc nD τ sig) → Buf (Elt Ideal) ℓ) (c : Dev nD) : Fin 4 → Fin 6144 → Fin 40 → Fin 128 → EReal :=
  Spec.grp (fun r k => m ((c : Thread nD τ).loc main_arg0) (ix2 r k)) (fun r => m ((c : Thread nD τ).loc main_arg1) (ix2 r 0))
    (fun e k q => m ((c : Thread nD τ).loc main_arg2) (ix3 e k q)) (fun e q => m ((c : Thread nD τ).loc main_arg3) (ix2 e q))
    (fun e q => m ((c : Thread nD τ).loc main_arg4) (ix2 e q))

/-- The gate's linear map at a point. -/
theorem lin_gate (r : Fin 6144) (j : Fin 256) : Trip.lin (iblk m hO c 0 t) (iblk m hO c 1 t) (iblk m hO c 2 t) (iblk m hO c 4 t) (iblk m hO c 6 t) r j
    = lin m c ⟨t.val % 4, by omega⟩ r ⟨t.val / 4 * 256 + j.val, by have := tlt hO t; omega⟩ := by
  unfold Trip.lin lin Spec.lin
  rw [blk1 hO c t r, blk4 hO c t j, blk6 hO c t j]
  simp only [blk0 hO c t r, blk2 hO c t]

/-- The linear factor's linear map at a point. -/
theorem lin_up (r : Fin 6144) (j : Fin 256) : Trip.lin (iblk m hO c 0 t) (iblk m hO c 1 t) (iblk m hO c 3 t) (iblk m hO c 5 t) (iblk m hO c 7 t) r j
    = lin m c ⟨t.val % 4, by omega⟩ r ⟨5120 + (t.val / 4 * 256 + j.val), by have := tlt hO t; omega⟩ := by
  unfold Trip.lin lin Spec.lin
  rw [blk1 hO c t r, blk5 hO c t j, blk7 hO c t j]
  simp only [blk0 hO c t r, blk3 hO c t]

/-- The activations at a point are those of the launch arguments. -/
theorem grp_eq (r : Fin 6144) (s : Fin 2) : Trip.grp (iblk m hO c 0 t) (iblk m hO c 1 t) (iblk m hO c 2 t) (iblk m hO c 3 t) (iblk m hO c 4 t) (iblk m hO c 5 t) (iblk m hO c 6 t) (iblk m hO c 7 t) r s
    = grp m c ⟨t.val % 4, by omega⟩ r ⟨t.val / 4 * 2 + s.val, by have := tlt hO t; omega⟩ := by
  funext l
  unfold Trip.grp grp Spec.grp
  rw [lin_gate hO c t, lin_up hO c t]
  refine congrArg₂ act (congrArg (lin m c _ r) (Fin.ext ?_)) (congrArg (lin m c _ r) (Fin.ext ?_)) <;> simp only <;> omega

end Cert.KernelIdeal.KBlocks

end
-- ==== Proof.Value.KOut.lean ====
/- What the kernel leaves in its two result arrays: at every row of group `e`, the codes and the scales of the row's activations. -/
module

public import proofs.«01_k».proof.Proof.Value.KBlocks
public import Idealize.ShloMosaic.Lib.Pipeline.ArrRel
public import Idealize.ShloMosaic.Lib.Pipeline.ValueKit.Geometry

@[expose] public section

set_option maxRecDepth 16384

noncomputable section

namespace Cert.KernelIdeal.KOut

open Cert.KernelIdeal Cert.KernelIdeal.Gen Cert.KernelIdeal.Pipe Cert.KernelIdeal.KBlocks Cert.Sizes Cert.Quant
open Idealize.ShloMosaic Idealize.ShloMosaic.TcCoe Idealize.SL.Sem

variable {m : (ℓ : Loc nD τ sig) → Buf (Elt Ideal) ℓ}

/-- The block of codes at a point is the column tile `t / 4`. -/
theorem idx8 : ∀ t : Fin grid0.N, cc0_transform_8 (grid0.coords t) = ![0, t.val / 4] := by decide +kernel

/-- The block of scales is the same at every point. -/
theorem idx9 : ∀ t : Fin grid0.N, cc0_transform_9 (grid0.coords t) = ![0, 0] := by decide +kernel

/-- The written-back blocks of codes cover the array. -/
theorem covers8 (hO : Ok m) : ((cfgM m hO).win 8).Covers := by
  refine ⟨fun a => ?_, fun β => ?_⟩
  · match a with
    | ⟨0, _⟩ => exact (by decide : 0 < 6144)
    | ⟨1, _⟩ => exact (by decide : 0 < 256)
  have h0 : (β (0 : Fin 2)).val < 1 := (β (0 : Fin 2)).isLt.trans_eq (show (6144 + 6144 - 1) / 6144 = 1 from rfl)
  have h1 : (β (1 : Fin 2)).val < 20 := (β (1 : Fin 2)).isLt.trans_eq (show (5120 + 256 - 1) / 256 = 20 from rfl)
  have hi := idx8 ⟨4 * (β (1 : Fin 2)).val + 3, by show _ < 80; omega⟩
  refine ⟨⟨4 * (β (1 : Fin 2)).val + 3, by show _ < 80; omega⟩, (flush0_8 (adm m hO) _).mpr (by simp only; omega), fun a => ⟨?_, .inl rfl⟩⟩
  match a with
  | ⟨0, _⟩ => exact (congrFun hi 0).trans (by show 0 = (β (0 : Fin 2)).val; omega)
  | ⟨1, _⟩ => exact (congrFun hi 1).trans (by show (4 * (β (1 : Fin 2)).val + 3) / 4 = (β (1 : Fin 2)).val; omega)

/-- The written-back array of scales is whole. -/
theorem covers9 (hO : Ok m) : ((cfgM m hO).win 9).Covers := by
  refine ⟨fun a => ?_, fun β => ?_⟩
  · match a with
    | ⟨0, _⟩ => exact (by decide : 0 < 6144)
    | ⟨1, _⟩ => exact (by decide : 0 < 40)
  have h0 : (β (0 : Fin 2)).val < 1 := (β (0 : Fin 2)).isLt.trans_eq (show (6144 + 6144 - 1) / 6144 = 1 from rfl)
  have h1 : (β (1 : Fin 2)).val < 1 := (β (1 : Fin 2)).isLt.trans_eq (show (40 + 40 - 1) / 40 = 1 from rfl)
  refine ⟨⟨79, by show _ < 80; omega⟩, (flush0_9 (adm m hO) _).mpr rfl, fun a => ⟨?_, .inl rfl⟩⟩
  match a with
  | ⟨0, _⟩ => show 0 = (β (0 : Fin 2)).val; omega
  | ⟨1, _⟩ => show 0 = (β (1 : Fin 2)).val; omega

/-- The code of point `t` at a row and a column of its block, by the launch arguments. -/
theorem qc_eq (hO : Ok m) (c : Dev nD) (t : Fin (cfgM m hO).N) (r : Fin 6144) (j : Fin 256) (e : Fin 4) (he : e.val = t.val % 4) (C : Fin 5120) (hC : C.val = t.val / 4 * 256 + j.val) :
    qc m hO c t r j = kCode (KBlocks.grp m c e r ⟨C.val / 128, by omega⟩) ⟨C.val % 128, by omega⟩ := by
  have he' : (⟨t.val % 4, by omega⟩ : Fin 4) = e := Fin.ext he.symm
  unfold qc Trip.code
  rw [grp_eq hO c t, he']
  refine congr (congrArg kCode (congrArg (KBlocks.grp m c _ r) (Fin.ext ?_))) (Fin.ext ?_) <;> simp only <;> omega

/-- The scale of point `t` at a row and a half of its block, by the launch arguments. -/
theorem qs_eq (hO : Ok m) (c : Dev nD) (t : Fin (cfgM m hO).N) (r : Fin 6144) (s : Fin 2) (e : Fin 4) (he : e.val = t.val % 4) (p : Fin 40) (hp : p.val = t.val / 4 * 2 + s.val) :
    qs m hO c t r s = kScale (KBlocks.grp m c e r p) := by
  have he' : (⟨t.val % 4, by omega⟩ : Fin 4) = e := Fin.ext he.symm
  unfold qs Trip.scl
  rw [grp_eq hO c t, he']
  exact congrArg kScale (congrArg (KBlocks.grp m c _ r) (Fin.ext hp.symm))

variable (hO : Ok m) (hH : Hyps m hO) (g : ℕ → ℕ) (c : Dev nD)
  {after : (w : Fin (cfgM m hO).W) → Fin (cfgM m hO).N → ((cfgM m hO).win w).block.Idx → Elt Ideal ((cfgM m hO).win w).elt}

/-- The codes' array, of any blocks that hold what `Rl8` says. -/
theorem arr8 (hL : ∀ u, ((cfgM m hO).win 8).flush u = true → Rl8 m hO g c u (after 8 u))
    (r : Fin 6144) (C : Fin 5120) (e : Fin 4) (h1 : ends g e.val ≤ r.val) (h2 : r.val < ends g (e.val + 1)) :
    ((rdat m hO hH g c).withAfter after).arrAt (8 : Fin (cfgM m hO).W) (cfgM m hO).N (ix2 r C)
      = kCode (KBlocks.grp m c e r ⟨C.val / 128, by omega⟩) ⟨C.val % 128, by omega⟩ := by
  refine ((rdat m hO hH g c).withAfter after).arrAt_forall_of_covers (8 : Fin (cfgM m hO).W)
    (fun (i : S6144x5120.Idx) (v : EReal) => ∀ (r : Fin 6144) (C : Fin 5120) (e : Fin 4), i = ix2 r C → ends g e.val ≤ r.val → r.val < ends g (e.val + 1) →
      v = kCode (KBlocks.grp m c e r ⟨C.val / 128, by omega⟩) ⟨C.val % 128, by omega⟩) (covers8 hO) (fun t hf y => ?_) (ix2 r C) ?_ r C e rfl h1 h2
  · intro r C e hi h1 h2
    have ht := (flush0_8 (adm m hO) t).mp hf
    have htl := tlt hO t
    have he := e.isLt
    let yy : S6144x256.Idx := y
    have hy : yy = ix2 (yy 0) (yy 1) := by
      funext a
      match a with
      | ⟨0, _⟩ => rfl
      | ⟨1, _⟩ => rfl
    have hix := idx8 t
    have hr : (yy 0).val = r.val := by
      have h := (Pipeline.Window.rect_emb_val ((cfgM m hO).win 8) t y (0 : Fin 2)).symm.trans (congrArg Fin.val (congrFun hi (0 : Fin 2)))
      have h' : cc0_transform_8 (grid0.coords t) 0 * 6144 + (yy 0).val = r.val := h
      rw [hix] at h'
      simpa using h'
    have hC : C.val = t.val / 4 * 256 + (yy 1).val := by
      have h := (Pipeline.Window.rect_emb_val ((cfgM m hO).win 8) t y (1 : Fin 2)).symm.trans (congrArg Fin.val (congrFun hi (1 : Fin 2)))
      have h' : cc0_transform_8 (grid0.coords t) 1 * 256 + (yy 1).val = C.val := h
      rw [hix] at h'
      exact h'.symm
    have hr' : yy 0 = r := Fin.ext hr
    have hq := hL t hf ⟨4 * (t.val / 4) + e.val, by show _ < 80; omega⟩ (by simp only; omega) (by simp only; omega) r (yy 1)
    simp only at hq
    rw [show (4 * (t.val / 4) + e.val) % 4 = e.val by omega] at hq
    refine Eq.trans ?_ ((hq h1 h2).trans (qc_eq hO c _ r (yy 1) e (by simp only; omega) C (by simp only; omega)))
    rw [hr'] at hy
    exact congrArg (after (8 : Fin (cfgM m hO).W) t) hy
  · exact Memref.isWhole_whole _

/-- The scales' array, of any blocks that hold what `Rl9` says. -/
theorem arr9 (hL : ∀ u, ((cfgM m hO).win 9).flush u = true → Rl9 m hO g c u (after 9 u))
    (r : Fin 6144) (q : Fin 40) (e : Fin 4) (h1 : ends g e.val ≤ r.val) (h2 : r.val < ends g (e.val + 1)) :
    ((rdat m hO hH g c).withAfter after).arrAt (9 : Fin (cfgM m hO).W) (cfgM m hO).N (ix2 r q) = kScale (KBlocks.grp m c e r q) := by
  refine ((rdat m hO hH g c).withAfter after).arrAt_forall_of_covers (9 : Fin (cfgM m hO).W)
    (fun (i : S6144x40.Idx) (v : EReal) => ∀ (r : Fin 6144) (q : Fin 40) (e : Fin 4), i = ix2 r q → ends g e.val ≤ r.val → r.val < ends g (e.val + 1) →
      v = kScale (KBlocks.grp m c e r q)) (covers9 hO) (fun t hf y => ?_) (ix2 r q) ?_ r q e rfl h1 h2
  · intro r q e hi h1 h2
    have ht := (flush0_9 (adm m hO) t).mp hf
    have htl := tlt hO t
    have he := e.isLt
    let yy : S6144x40.Idx := y
    have hix := idx9 t
    have hr : (yy 0).val = r.val := by
      have h := (Pipeline.Window.rect_emb_val ((cfgM m hO).win 9) t y (0 : Fin 2)).symm.trans (congrArg Fin.val (congrFun hi (0 : Fin 2)))
      have h' : cc0_transform_9 (grid0.coords t) 0 * 6144 + (yy 0).val = r.val := h
      rw [hix] at h'
      simpa using h'
    have hC : (yy 1).val = q.val := by
      have h := (Pipeline.Window.rect_emb_val ((cfgM m hO).win 9) t y (1 : Fin 2)).symm.trans (congrArg Fin.val (congrFun hi (1 : Fin 2)))
      have h' : cc0_transform_9 (grid0.coords t) 1 * 40 + (yy 1).val = q.val := h
      rw [hix] at h'
      simpa using h'
    have hy : yy = ix2 r q := by
      funext a
      match a with
      | ⟨0, _⟩ => exact Fin.ext hr
      | ⟨1, _⟩ => exact Fin.ext hC
    have hq := hL t hf ⟨4 * (q.val / 2) + e.val, by show _ < 80; omega⟩ (by simp only; omega) r q
    simp only at hq
    rw [show (4 * (q.val / 2) + e.val) % 4 = e.val by omega] at hq
    refine Eq.trans ?_ ((hq h1 h2 (by omega)).trans (qs_eq hO c _ r _ e (by simp only; omega) q (by simp only; omega)))
    exact congrArg (after (9 : Fin (cfgM m hO).W) t) hy
  · exact Memref.isWhole_whole _

set_option maxHeartbeats 1000000 in
/-- What the run leaves: the codes and the scales of every row of every group, and the arguments as they were. -/
theorem result (ρ : Dev nD → PrngReg) (hO : Ok m) (hH : Hyps m hO) {g : ℕ → ℕ} (hS : Sizes (m (((0 : Dev nD) : Thread nD τ).loc main_arg5)) g) :
    θ_run defs (onTc (τ := τ) (main (F := Ideal))) ⟨m, fun _ => 0, ρ⟩ (fun r => ∀ c : Dev nD,
      (∀ (i : Fin 6144) (e : Fin 4), ends g e.val ≤ i.val → i.val < ends g (e.val + 1) →
        (∀ C : Fin 5120, r.2.mem ((c.tc : Thread nD τ).loc main_v5_0) (ix2 i C) = kCode (KBlocks.grp m c e i ⟨C.val / 128, by omega⟩) ⟨C.val % 128, by omega⟩)
        ∧ ∀ q : Fin 40, r.2.mem ((c.tc : Thread nD τ).loc main_v5_1) (ix2 i q) = kScale (KBlocks.grp m c e i q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hrun := Pipe.run m ρ hO hH hS
  refine (θ_run defs _ _).mono (fun r h c => ⟨?_, h.2 c⟩)
    (θ_run_and (θ_run_and hrun hrun) (frame_of m ρ hO _ (fun c w => A_eq m hO hH c w) hrun))
  obtain ⟨after, hL, hA⟩ := h.1.1.exists_exact c
  intro i e h1 h2
  refine ⟨fun C => ?_, fun q => ?_⟩
  · exact (congrFun (hA (8 : Fin (cfgM m hO).W)) (ix2 i C)).trans
      (arr8 hO hH g c (after := after) (fun u hf => (dats m hO hH 0 c).toRRel_leaves rfl (hL (8 : Fin (cfgM m hO).W) u hf)) i C e h1 h2)
  · exact (congrFun (hA (9 : Fin (cfgM m hO).W)) (ix2 i q)).trans
      (arr9 hO hH g c (after := after) (fun u hf => (dats m hO hH 0 c).toRRel_leaves rfl (hL (9 : Fin (cfgM m hO).W) u hf)) i q e h1 h2)

end Cert.KernelIdeal.KOut

end
-- ==== Proof.Value.RPay.lean ====
/- What the reference's arithmetic puts at one place: the linear map with the weights of the row's group, the activation, and the code
   and the scale of the reference's quantiser. -/
module

public import proofs.«01_k».proof.Proof.Gen.ReferenceIdeal.Skeleton
public import proofs.«01_k».proof.Proof.Value.Spec
public import Idealize.ShloMosaic.Lib.WordCmp
public import Idealize.ShloMosaic.Lib.Pointwise

@[expose] public section

set_option maxRecDepth 16384

noncomputable section

namespace Cert.ReferenceIdeal.RPay

open Cert.ReferenceIdeal Cert.ReferenceIdeal.Gen Cert.Quant
open Idealize.ShloMosaic Idealize.ShloMosaic.TcCoe

/-- The rows' numbers. -/
abbrev rows : IVec S6144x1 32 := iota .tc S6144x1 32 [0] iota_S6144x1_d0_w32

/-- The mask of a group at a row: the row is at or after `v` and before `w`. -/
theorem mask_raw (v w : BitVec 32) (r : Fin 6144) : k0_pay1 (F := Ideal) v w (ix2 r 0)
    = IntOp.andi (IntOp.cmpi .sge (BitVec.ofNat 32 r.val) v) (IntOp.cmpi .slt (BitVec.ofNat 32 r.val) w) := by
  pointwise [k0_pay1]

/-- Group 0's product on its own rows, zero elsewhere. -/
theorem pay2_raw (v w : BitVec 32) (x : Vec Ideal S6144x3584 .fp8e4m3) (wt : Vec Ideal S1x3584x10240 .fp8e4m3) (r : Fin 6144) (q : Fin 10240) :
    k0_pay2 (F := Ideal) v w x wt (ix2 r q)
      = Scalar.select (k0_pay1 (F := Ideal) v w (ix2 r 0)) (∑ k : Fin 3584, (x (ix2 r k) : EReal) * wt (ix3 0 k q)) 0 := by
  unfold k0_pay2
  generalize k0_pay1 (F := Ideal) v w = M
  pointwise

/-- Group 0's scales on its own rows, zero elsewhere. -/
theorem pay3_raw (v w : BitVec 32) (s : Vec Ideal S1x10240 .f32) (r : Fin 6144) (q : Fin 10240) :
    k0_pay3 (F := Ideal) v w s (ix2 r q)
      = Scalar.select (k0_pay1 (F := Ideal) v w (ix2 r 0)) (s (ix2 0 q)) (Ideal.ofBits .f32 0#32) := by
  unfold k0_pay3
  generalize k0_pay1 (F := Ideal) v w = M
  pointwise

/-- Group 0's biases on its own rows, zero elsewhere. -/
theorem pay4_raw (v w : BitVec 32) (s : Vec Ideal S1x10240 .f32) (r : Fin 6144) (q : Fin 10240) :
    k0_pay4 (F := Ideal) v w s (ix2 r q)
      = Scalar.select (k0_pay1 (F := Ideal) v w (ix2 r 0)) (s (ix2 0 q)) (Ideal.ofBits .f32 0#32) := by
  unfold k0_pay4
  generalize k0_pay1 (F := Ideal) v w = M
  pointwise

/-- Another group's biases put on the rows of a mask. -/
theorem pay6_raw (o : FVec Ideal S6144x10240 .f32) (M : IVec S6144x1 1) (s : Vec Ideal S1x10240 .f32) (r : Fin 6144) (q : Fin 10240) :
    k0_pay6 (F := Ideal) o M s (ix2 r q) = Scalar.select (M (ix2 r 0)) (s (ix2 0 q)) (o (ix2 r q)) := by
  pointwise [k0_pay6]

/-- Groups 1 and 2's products put on their own rows. -/
theorem pay8_raw (o : FVec Ideal S6144x10240 .f32) (M : IVec S6144x1 1) (x x' : Vec Ideal S6144x3584 .fp8e4m3) (wt wt' : Vec Ideal S1x3584x10240 .fp8e4m3)
    (v w : BitVec 32) (r : Fin 6144) (q : Fin 10240) :
    k0_pay8 (F := Ideal) rows o M x wt v w x' wt' (ix2 r q)
      = Scalar.select (k0_pay1 (F := Ideal) v w (ix2 r 0)) (∑ k : Fin 3584, (x' (ix2 r k) : EReal) * wt' (ix3 0 k q))
          (Scalar.select (M (ix2 r 0)) (∑ k : Fin 3584, (x (ix2 r k) : EReal) * wt (ix3 0 k q)) (o (ix2 r q))) := by
  unfold k0_pay8
  rw [show k0_pay7 (F := Ideal) rows v w = k0_pay1 (F := Ideal) v w from rfl]
  generalize k0_pay1 (F := Ideal) v w = M'
  pointwise

/-- Groups 1 and 2's scales put on their own rows. -/
theorem pay9_raw (o : FVec Ideal S6144x10240 .f32) (M : IVec S6144x1 1) (s s' : Vec Ideal S1x10240 .f32)
    (v w : BitVec 32) (r : Fin 6144) (q : Fin 10240) :
    k0_pay9 (F := Ideal) rows o M s v w s' (ix2 r q)
      = Scalar.select (k0_pay1 (F := Ideal) v w (ix2 r 0)) (s' (ix2 0 q)) (Scalar.select (M (ix2 r 0)) (s (ix2 0 q)) (o (ix2 r q))) := by
  unfold k0_pay9
  rw [show k0_pay7 (F := Ideal) rows v w = k0_pay1 (F := Ideal) v w from rfl]
  generalize k0_pay1 (F := Ideal) v w = M'
  pointwise

/-- The linear map: group 3 put on its own rows, then the scales and the bias. -/
theorem pay12_raw (b acc ws : FVec Ideal S6144x10240 .f32) (M2 : IVec S6144x10240 1) (b2 : FVec Ideal S6144x10240 .f32) (v w : BitVec 32)
    (x : Vec Ideal S6144x3584 .fp8e4m3) (wt : Vec Ideal S1x3584x10240 .fp8e4m3) (s3 b3 : Vec Ideal S1x10240 .f32) (xs : Vec Ideal S6144x1 .f32) (r : Fin 6144) (q : Fin 10240) :
    k0_pay12 (F := Ideal) rows b acc ws M2 b2 v w x wt s3 b3 xs (ix2 r q)
      = (Scalar.select (k0_pay1 (F := Ideal) v w (ix2 r 0)) (∑ k : Fin 3584, (x (ix2 r k) : EReal) * wt (ix3 0 k q)) (acc (ix2 r q)) : EReal) * xs (ix2 r 0)
          * Scalar.select (k0_pay1 (F := Ideal) v w (ix2 r 0)) (s3 (ix2 0 q)) (ws (ix2 r q))
        + Scalar.select (k0_pay1 (F := Ideal) v w (ix2 r 0)) (b3 (ix2 0 q)) (Scalar.select (M2 (ix2 r q)) (b2 (ix2 r q)) (b (ix2 r q))) := by
  have h : k0_pay12 (F := Ideal) rows b acc ws M2 b2 v w x wt s3 b3 xs
    = addf (mulf (mulf (select (broadcastTo S6144x10240 (shapeCast S6144x1 (k0_pay1 (F := Ideal) v w) shapeCasts_S6144x1_S6144x1) broadcasts_S6144x1_S6144x10240)
        (matmul dot_S6144x3584_S3584x10240_S6144x10240_1_0_0_1_n_n none x (shapeCast S3584x10240 wt shapeCasts_S1x3584x10240_S3584x10240) (constant S6144x10240 .f32 0x00000000#32)) acc)
        (broadcastTo S6144x10240 xs broadcasts_S6144x1_S6144x10240))
        (select (broadcastTo S6144x10240 (shapeCast S6144x1 (k0_pay1 (F := Ideal) v w) shapeCasts_S6144x1_S6144x1) broadcasts_S6144x1_S6144x10240)
          (broadcastTo S6144x10240 (shapeCast S1x10240 s3 shapeCasts_S1x10240_S1x10240) broadcasts_S1x10240_S6144x10240) ws))
        (select (broadcastTo S6144x10240 (shapeCast S6144x1 (k0_pay1 (F := Ideal) v w) shapeCasts_S6144x1_S6144x1) broadcasts_S6144x1_S6144x10240)
          (broadcastTo S6144x10240 (shapeCast S1x10240 b3 shapeCasts_S1x10240_S1x10240) broadcasts_S1x10240_S6144x10240) (select M2 b2 b)) := rfl
  rw [h]
  generalize k0_pay1 (F := Ideal) v w = M
  pointwise

/-- The mask of group 2, repeated along the columns. -/
theorem pay10_raw (v w : BitVec 32) (r : Fin 6144) (q : Fin 10240) : k0_pay10 (F := Ideal) rows v w (ix2 r q) = k0_pay1 (F := Ideal) v w (ix2 r 0) := by
  unfold k0_pay10
  rw [show k0_pay7 (F := Ideal) rows v w = k0_pay1 (F := Ideal) v w from rfl]
  generalize k0_pay1 (F := Ideal) v w = M
  pointwise

/-- A row of biases repeated along the rows. -/
theorem pay11_raw (s : Vec Ideal S1x10240 .f32) (r : Fin 6144) (q : Fin 10240) : k0_pay11 (F := Ideal) s (ix2 r q) = s (ix2 0 q) := by
  pointwise [k0_pay11]

/-! ## The masks -/

/-- A row's mask is whether it lies between the two ends. -/
theorem mask_at {a b : ℕ} (ha : a ≤ 6144) (hb : b ≤ 6144) (r : Fin 6144) :
    k0_pay1 (F := Ideal) (BitVec.ofNat 32 a) (BitVec.ofNat 32 b) (ix2 r 0) = BitVec.ofBool (decide (a ≤ r.val ∧ r.val < b)) := by
  rw [mask_raw, WordCmp.cmpi_sge_eq, WordCmp.cmpi_slt_eq, WordCmp.andi_ofBool, WordCmp.toInt_ofNat_of_lt (by omega),
    WordCmp.toInt_ofNat_of_lt (by omega), WordCmp.toInt_ofNat_of_lt (by omega), Bool.decide_and]
  congr 2
  · exact decide_eq_decide.mpr (by omega)
  · exact decide_eq_decide.mpr (by omega)

/-- A selection by a true condition. -/
theorem sel_true {α : Type} {q : Prop} [Decidable q] (h : q) (x y : α) : Scalar.select (BitVec.ofBool (decide q)) x y = x := by
  unfold Scalar.select; simp [h]

/-- A selection by a false condition. -/
theorem sel_false {α : Type} {q : Prop} [Decidable q] (h : ¬ q) (x y : α) : Scalar.select (BitVec.ofBool (decide q)) x y = y := by
  unfold Scalar.select; simp [h]

/-! ## The linear map -/

section
variable (g : Fin 5 → ℕ) (x : Vec Ideal S6144x3584 .fp8e4m3) (xs : Vec Ideal S6144x1 .f32)
  (w : Fin 4 → Vec Ideal S1x3584x10240 .fp8e4m3) (s b : Fin 4 → Vec Ideal S1x10240 .f32)

/-- The word of an end. -/
abbrev wd (j : Fin 5) : BitVec 32 := BitVec.ofNat 32 (g j)

/-- The linear map as the reference computes it: every group's product, each kept on its own rows. -/
abbrev lin4 : FVec Ideal S6144x10240 .f32 :=
  k0_pay12 (F := Ideal) rows
    (k0_pay6 (k0_pay4 (wd g 0) (wd g 1) (b 0)) (k0_pay5 (F := Ideal) (wd g 1) (wd g 2)) (b 1))
    (k0_pay8 rows (k0_pay2 (wd g 0) (wd g 1) x (w 0)) (k0_pay5 (F := Ideal) (wd g 1) (wd g 2)) x (w 1) (wd g 2) (wd g 3) x (w 2))
    (k0_pay9 rows (k0_pay3 (wd g 0) (wd g 1) (s 0)) (k0_pay5 (F := Ideal) (wd g 1) (wd g 2)) (s 1) (wd g 2) (wd g 3) (s 2))
    (k0_pay10 (F := Ideal) rows (wd g 2) (wd g 3)) (k0_pay11 (b 2)) (wd g 3) (wd g 4) x (w 3) (s 3) (b 3) xs

variable {g} in
/-- At a row of group `e` it is that group's linear map. -/
theorem lin4_at (hg : ∀ j, g j ≤ 6144) (hm : ∀ i j : Fin 5, i ≤ j → g i ≤ g j) (e : Fin 4) (r : Fin 6144)
    (h1 : g e.castSucc ≤ r.val) (h2 : r.val < g e.succ) (q : Fin 10240) :
    lin4 g x xs w s b (ix2 r q)
      = ((∑ k : Fin 3584, (x (ix2 r k) : EReal) * w e (ix3 0 k q)) * xs (ix2 r 0) * s e (ix2 0 q) + b e (ix2 0 q) : EReal) := by
  unfold lin4
  rw [pay12_raw, pay6_raw, pay8_raw, pay9_raw, pay10_raw, pay11_raw, pay2_raw, pay3_raw, pay4_raw,
    show k0_pay5 (F := Ideal) (wd g 1) (wd g 2) = k0_pay1 (F := Ideal) (wd g 1) (wd g 2) from rfl,
    mask_at (hg 0) (hg 1), mask_at (hg 1) (hg 2), mask_at (hg 2) (hg 3), mask_at (hg 3) (hg 4)]
  have m1 : g 0 ≤ g 1 := hm 0 1 (by decide)
  have m2 : g 1 ≤ g 2 := hm 1 2 (by decide)
  have m3 : g 2 ≤ g 3 := hm 2 3 (by decide)
  have m4 : g 3 ≤ g 4 := hm 3 4 (by decide)
  match e, h1, h2 with
  | 0, h1, h2 =>
    have h1 : g 0 ≤ r.val := h1
    have h2 : r.val < g 1 := h2
    simp only [sel_true (show g 0 ≤ r.val ∧ r.val < g 1 from ⟨h1, h2⟩), sel_false (show ¬ (g 1 ≤ r.val ∧ r.val < g 2) by omega),
      sel_false (show ¬ (g 2 ≤ r.val ∧ r.val < g 3) by omega), sel_false (show ¬ (g 3 ≤ r.val ∧ r.val < g 4) by omega)]
  | 1, h1, h2 =>
    have h1 : g 1 ≤ r.val := h1
    have h2 : r.val < g 2 := h2
    simp only [sel_true (show g 1 ≤ r.val ∧ r.val < g 2 from ⟨h1, h2⟩),
      sel_false (show ¬ (g 2 ≤ r.val ∧ r.val < g 3) by omega), sel_false (show ¬ (g 3 ≤ r.val ∧ r.val < g 4) by omega)]
  | 2, h1, h2 =>
    have h1 : g 2 ≤ r.val := h1
    have h2 : r.val < g 3 := h2
    simp only [sel_true (show g 2 ≤ r.val ∧ r.val < g 3 from ⟨h1, h2⟩), sel_false (show ¬ (g 3 ≤ r.val ∧ r.val < g 4) by omega)]
  | 3, h1, h2 =>
    have h1 : g 3 ≤ r.val := h1
    have h2 : r.val < g 4 := h2
    simp only [sel_true (show g 3 ≤ r.val ∧ r.val < g 4 from ⟨h1, h2⟩)]

end

/-! ## The activation and the quantiser -/

/-- The greatest of the first operand's entries along the last axis. -/
theorem redmax (x : FVec Ideal S6144x40x128 .f32) (r : Fin 6144) (p : Fin 40) :
    multiReduction (F := Ideal) .maximumf [2] S6144x40 x 0xFF800000#32 reduces_S6144x40x128_S6144x40 (.inl rfl) rfl (ix2 r p)
      = Finset.fold max (Ideal.ofBits .f32 4286578688#32) (fun k => (x (ix3 r p k) : EReal)) Finset.univ := by
  pointwise

/-- The least of its entries along the last axis. -/
theorem redmin (x : FVec Ideal S6144x40x256 .f32) (r : Fin 6144) (p : Fin 40) :
    multiReduction (F := Ideal) .minimumf [2] S6144x40 x 0x7F800000#32 reduces_S6144x40x256_S6144x40 (.inl rfl) rfl (ix2 r p)
      = Finset.fold min (Ideal.ofBits .f32 2139095040#32) (fun k => (x (ix3 r p k) : EReal)) Finset.univ := by
  pointwise

/-- The clipped gate at a place. -/
theorem gate_at (y : FVec Ideal S6144x10240 .f32) (r : Fin 6144) (q : Fin 5120) :
    minimumf (extractStridedSlice S6144x5120 ![0, 0] y slices_S6144x10240_o0_0_S6144x5120) (broadcast S6144x5120 (Scalar.ofBits (F := Ideal) .f32 0x40E00000#32)) (ix2 r q)
      = min (y (ix2 r ⟨q.val, by omega⟩) : EReal) (Ideal.ofBits .f32 1088421888#32) := by
  pointwise

/-- The clipped linear factor plus one at a place. -/
theorem up_at (y : FVec Ideal S6144x10240 .f32) (r : Fin 6144) (q : Fin 5120) :
    addf (minimumf (broadcast S6144x5120 (Scalar.ofBits (F := Ideal) .f32 0x40E00000#32)) (maximumf (broadcast S6144x5120 (Scalar.ofBits (F := Ideal) .f32 0xC0E00000#32))
        (extractStridedSlice S6144x5120 ![0, 5120] y slices_S6144x10240_o0_5120_S6144x5120))) (broadcast S6144x5120 (Scalar.ofBits (F := Ideal) .f32 0x3F800000#32)) (ix2 r q)
      = min (Ideal.ofBits .f32 1088421888#32) (max (Ideal.ofBits .f32 3235905536#32) (y (ix2 r ⟨5120 + q.val, by omega⟩) : EReal)) + 1 := by
  pointwise

/-- The activation of a place, by group of 128 columns. -/
theorem pay15_at (v u : FVec Ideal S6144x5120 .f32) (r : Fin 6144) (p : Fin 40) (l : Fin 128) :
    k0_pay15 (F := Ideal) v u (ix3 r p l)
      = (u (ix2 r ⟨p.val * 128 + l.val, by omega⟩) * v (ix2 r ⟨p.val * 128 + l.val, by omega⟩)
        * Ideal.logistic (Ideal.ofBits .f32 1071242019#32 * v (ix2 r ⟨p.val * 128 + l.val, by omega⟩)) : EReal) := by
  pointwise [k0_pay15]

/-- The group's greatest magnitude, scaled. -/
theorem amax_at (h : FVec Ideal S6144x40x128 .f32) (r : Fin 6144) (p : Fin 40) :
    mulf (shapeCast S6144x40x1 (multiReduction (F := Ideal) .maximumf [2] S6144x40 (absf h) 0xFF800000#32 reduces_S6144x40x128_S6144x40 (.inl rfl) rfl) shapeCasts_S6144x40_S6144x40x1)
        (broadcast S6144x40x1 (Scalar.ofBits (F := Ideal) .f32 0x3B124925#32)) (ix3 r p 0)
      = amax fun l => (h (ix3 r p l) : EReal) := by
  unfold amax
  have e := redmax (absf h) r p
  generalize multiReduction (F := Ideal) .maximumf [2] S6144x40 (absf h) 0xFF800000#32 reduces_S6144x40x128_S6144x40 (.inl rfl) rfl = z at e
  have e2 : ∀ z : FVec Ideal S6144x40 .f32, mulf (shapeCast S6144x40x1 z shapeCasts_S6144x40_S6144x40x1)
        (broadcast S6144x40x1 (Scalar.ofBits (F := Ideal) .f32 0x3B124925#32)) (ix3 r p 0) = (z (ix2 r p) : EReal) * Ideal.ofBits .f32 991054117#32 := fun z => by
    pointwise
  rw [e2, e]
  rfl

end Cert.ReferenceIdeal.RPay

end
-- ==== Proof.Value.RQuant.lean ====
/- The reference's quantiser at one place: exponent, code and scale of a row's block of columns, and the two results of the loaded blocks. -/
module

public import proofs.«01_k».proof.Proof.Value.RPay

@[expose] public section

set_option maxRecDepth 16384

noncomputable section

namespace Cert.ReferenceIdeal.RPay

open Cert.ReferenceIdeal Cert.ReferenceIdeal.Gen Cert.Quant
open Idealize.ShloMosaic Idealize.ShloMosaic.TcCoe

/-- The candidates' exponents. -/
abbrev cands : FVec Ideal S1x1x256 .f32 :=
  subf (sitofp .f32 (iota .tc S1x1x256 32 [2] iota_S1x1x256_d2_w32)) (broadcast S1x1x256 (Scalar.ofBits (F := Ideal) .f32 0x42FC0000#32))

/-- The candidate exponents, by index. -/
theorem cands_at (k : Fin 256) : (cands (ix3 0 0 k) : EReal) = cand k := by
  unfold cand
  pointwise

/-- The candidate of a place, or 128 where its power of two is not above the value. -/
abbrev table (a : FVec Ideal S6144x40x1 .f32) (w : FVec Ideal S1x1x256 .f32) : FVec Ideal S6144x40x256 .f32 :=
  select (cmpf .olt (broadcastTo S6144x40x256 a broadcasts_S6144x40x1_S6144x40x256) (broadcastTo S6144x40x256 (exp2 w) broadcasts_S1x1x256_S6144x40x256))
    (broadcastTo S6144x40x256 (shapeCast S1x1x256 w shapeCasts_S1x1x256_S1x1x256) broadcasts_S1x1x256_S6144x40x256)
    (broadcast S6144x40x256 (Scalar.ofBits (F := Ideal) .f32 0x43000000#32))

/-- A value against every power of two of the candidates. -/
theorem table_at (a : FVec Ideal S6144x40x1 .f32) (w : FVec Ideal S1x1x256 .f32) (r : Fin 6144) (p : Fin 40) (k : Fin 256) :
    (table a w (ix3 r p k) : EReal) = if (a (ix3 r p 0) : EReal) < Ideal.exp2 (w (ix3 0 0 k)) then (w (ix3 0 0 k) : EReal) else Ideal.ofBits .f32 1124073472#32 := by
  unfold table
  pointwise
  rfl

/-- The exponent of a place: 0 where the value counts as zero. -/
theorem expo_at (a : FVec Ideal S6144x40x1 .f32) (z : FVec Ideal S6144x40 .f32) (r : Fin 6144) (p : Fin 40) :
    (select (cmpf .olt a (broadcast S6144x40x1 (Scalar.ofBits (F := Ideal) .f32 0x00800000#32))) (broadcast S6144x40x1 (Scalar.ofBits (F := Ideal) .f32 0x00000000#32))
      (shapeCast S6144x40x1 z shapeCasts_S6144x40_S6144x40x1) (ix3 r p 0) : EReal)
      = if (a (ix3 r p 0) : EReal) < Ideal.ofBits .f32 8388608#32 then 0 else z (ix2 r p) := by
  pointwise

/-- The reference's exponent of a row's block of columns. -/
theorem pay16_at (v u : FVec Ideal S6144x5120 .f32) (r : Fin 6144) (p : Fin 40) :
    (k0_pay16 (F := Ideal) v u (ix3 r p 0) : EReal) = rExp (amax fun l => (k0_pay15 (F := Ideal) v u (ix3 r p l) : EReal)) := by
  have h : k0_pay16 (F := Ideal) v u = select (cmpf .olt
      (mulf (shapeCast S6144x40x1 (multiReduction (F := Ideal) .maximumf [2] S6144x40 (absf (k0_pay15 (F := Ideal) v u)) 0xFF800000#32 reduces_S6144x40x128_S6144x40 (.inl rfl) rfl) shapeCasts_S6144x40_S6144x40x1)
        (broadcast S6144x40x1 (Scalar.ofBits (F := Ideal) .f32 0x3B124925#32)))
      (broadcast S6144x40x1 (Scalar.ofBits (F := Ideal) .f32 0x00800000#32))) (broadcast S6144x40x1 (Scalar.ofBits (F := Ideal) .f32 0x00000000#32))
      (shapeCast S6144x40x1 (multiReduction (F := Ideal) .minimumf [2] S6144x40 (table
        (mulf (shapeCast S6144x40x1 (multiReduction (F := Ideal) .maximumf [2] S6144x40 (absf (k0_pay15 (F := Ideal) v u)) 0xFF800000#32 reduces_S6144x40x128_S6144x40 (.inl rfl) rfl) shapeCasts_S6144x40_S6144x40x1)
          (broadcast S6144x40x1 (Scalar.ofBits (F := Ideal) .f32 0x3B124925#32))) cands) 0x7F800000#32 reduces_S6144x40x256_S6144x40 (.inl rfl) rfl) shapeCasts_S6144x40_S6144x40x1) := rfl
  rw [h]
  generalize k0_pay15 (F := Ideal) v u = y
  have e := amax_at y r p
  generalize mulf (shapeCast S6144x40x1 (multiReduction (F := Ideal) .maximumf [2] S6144x40 (absf y) 0xFF800000#32 reduces_S6144x40x128_S6144x40 (.inl rfl) rfl) shapeCasts_S6144x40_S6144x40x1)
          (broadcast S6144x40x1 (Scalar.ofBits (F := Ideal) .f32 0x3B124925#32)) = a at e ⊢
  refine (expo_at a _ r p).trans ?_
  rw [e]
  unfold rExp
  refine if_congr Iff.rfl rfl ((redmin _ r p).trans ?_)
  refine congrArg (fun f => Finset.fold min (Ideal.ofBits .f32 2139095040#32) f Finset.univ) (funext fun k => ?_)
  refine (table_at a cands r p k).trans ?_
  rw [e, cands_at]

/-- The codes by any activations and exponents: scaled, clipped, in one row. -/
theorem pay17_gen (y : FVec Ideal S6144x40x128 .f32) (e : FVec Ideal S6144x40x1 .f32) (r : Fin 6144) (q : Fin 5120) :
    (shapeCast S6144x5120 (minimumf (broadcast S6144x40x128 (Scalar.ofBits (F := Ideal) .f32 0x43E00000#32)) (maximumf (broadcast S6144x40x128 (Scalar.ofBits (F := Ideal) .f32 0xC3E00000#32))
      (mulf y (broadcastTo S6144x40x128 (exp2 (subf (broadcast S6144x40x1 (Scalar.ofBits (F := Ideal) .f32 0x00000000#32)) e)) broadcasts_S6144x40x1_S6144x40x128))))
      shapeCasts_S6144x40x128_S6144x5120 (ix2 r q) : EReal)
      = clip ((y (ix3 r ⟨q.val / 128, by omega⟩ ⟨q.val % 128, by omega⟩) : EReal) * Ideal.exp2 (0 - (e (ix3 r ⟨q.val / 128, by omega⟩ 0) : EReal))) := by
  have h : ∀ z : FVec Ideal S6144x40x128 .f32, shapeCast S6144x5120 z shapeCasts_S6144x40x128_S6144x5120 (ix2 r q)
      = z (ix3 r ⟨q.val / 128, by omega⟩ ⟨q.val % 128, by omega⟩) := fun z => by pointwise
  have h2 : ∀ z : FVec Ideal S6144x40x1 .f32, ∀ p l, broadcastTo S6144x40x128 z broadcasts_S6144x40x1_S6144x40x128 (ix3 r p l) = z (ix3 r p 0) := fun z p l => by pointwise
  refine (h _).trans ?_
  change min (Ideal.ofBits .f32 1138753536#32) (max (Ideal.ofBits .f32 3286237184#32) (y _ * (broadcastTo S6144x40x128 _ broadcasts_S6144x40x1_S6144x40x128 _ : EReal))) = _
  rw [h2, ← Ideal.ofBits_zero .f32]
  rfl

/-- The codes of a place from its activation and exponent. -/
theorem pay17_raw (v u : FVec Ideal S6144x5120 .f32) (r : Fin 6144) (q : Fin 5120) :
    (k0_pay17 (F := Ideal) v u (ix2 r q) : EReal)
      = clip ((k0_pay15 (F := Ideal) v u (ix3 r ⟨q.val / 128, by omega⟩ ⟨q.val % 128, by omega⟩) : EReal)
          * Ideal.exp2 (0 - (k0_pay16 (F := Ideal) v u (ix3 r ⟨q.val / 128, by omega⟩ 0) : EReal))) :=
  pay17_gen (k0_pay15 (F := Ideal) v u) (k0_pay16 (F := Ideal) v u) r q

/-- The scales by any exponents: powers of two. -/
theorem pay18_gen (e : FVec Ideal S6144x40x1 .f32) (r : Fin 6144) (p : Fin 40) :
    (shapeCast S6144x40 (exp2 e) shapeCasts_S6144x40x1_S6144x40 (ix2 r p) : EReal) = Ideal.exp2 (e (ix3 r p 0)) := by
  have h : ∀ z : FVec Ideal S6144x40x1 .f32, shapeCast S6144x40 z shapeCasts_S6144x40x1_S6144x40 (ix2 r p) = z (ix3 r p 0) := fun z => by pointwise
  exact h _

/-- The scale of a place from its exponent. -/
theorem pay18_raw (v u : FVec Ideal S6144x5120 .f32) (r : Fin 6144) (p : Fin 40) :
    (k0_pay18 (F := Ideal) v u (ix2 r p) : EReal) = Ideal.exp2 (k0_pay16 (F := Ideal) v u (ix3 r p 0) : EReal) :=
  pay18_gen (k0_pay16 (F := Ideal) v u) r p

/-! ## The two results -/

section
variable (g : Fin 5 → ℕ) (x : Vec Ideal S6144x3584 .fp8e4m3) (xs : Vec Ideal S6144x1 .f32)
  (w : Fin 4 → Vec Ideal S1x3584x10240 .fp8e4m3) (s b : Fin 4 → Vec Ideal S1x10240 .f32)

/-- The clipped gate, whole. -/
abbrev gate4 : FVec Ideal S6144x5120 .f32 :=
  minimumf (extractStridedSlice S6144x5120 ![0, 0] (lin4 g x xs w s b) slices_S6144x10240_o0_0_S6144x5120) (broadcast S6144x5120 (Scalar.ofBits (F := Ideal) .f32 0x40E00000#32))

/-- The clipped linear factor plus one, whole. -/
abbrev up4 : FVec Ideal S6144x5120 .f32 :=
  addf (minimumf (broadcast S6144x5120 (Scalar.ofBits (F := Ideal) .f32 0x40E00000#32)) (maximumf (broadcast S6144x5120 (Scalar.ofBits (F := Ideal) .f32 0xC0E00000#32))
    (extractStridedSlice S6144x5120 ![0, 5120] (lin4 g x xs w s b) slices_S6144x10240_o0_5120_S6144x5120))) (broadcast S6144x5120 (Scalar.ofBits (F := Ideal) .f32 0x3F800000#32))

/-- The group of activations that both programs quantise, from the loaded blocks. -/
abbrev grp4 (e : Fin 4) (r : Fin 6144) (p : Fin 40) : Fin 128 → EReal :=
  Spec.grp (fun r k => x (ix2 r k)) (fun r => xs (ix2 r 0)) (fun e k q => w e (ix3 0 k q)) (fun e q => s e (ix2 0 q)) (fun e q => b e (ix2 0 q)) e r p

variable {g} in
/-- The activations of a row of group `e`. -/
theorem act4_at (hg : ∀ j, g j ≤ 6144) (hm : ∀ i j : Fin 5, i ≤ j → g i ≤ g j) (e : Fin 4) (r : Fin 6144)
    (h1 : g e.castSucc ≤ r.val) (h2 : r.val < g e.succ) (p : Fin 40) (l : Fin 128) :
    (k0_pay15 (F := Ideal) (gate4 g x xs w s b) (up4 g x xs w s b) (ix3 r p l) : EReal) = grp4 x xs w s b e r p l := by
  refine (pay15_at _ _ r p l).trans ?_
  unfold gate4 up4
  rw [gate_at, up_at, lin4_at x xs w s b hg hm e r h1 h2, lin4_at x xs w s b hg hm e r h1 h2]
  rfl

variable {g} in
/-- The reference's codes at a row of group `e`. -/
theorem codes4 (hg : ∀ j, g j ≤ 6144) (hm : ∀ i j : Fin 5, i ≤ j → g i ≤ g j) (e : Fin 4) (r : Fin 6144)
    (h1 : g e.castSucc ≤ r.val) (h2 : r.val < g e.succ) (q : Fin 5120) :
    (k0_pay17 (F := Ideal) (gate4 g x xs w s b) (up4 g x xs w s b) (ix2 r q) : EReal)
      = rCode (grp4 x xs w s b e r ⟨q.val / 128, by omega⟩) ⟨q.val % 128, by omega⟩ := by
  rw [pay17_raw, pay16_at]
  simp only [act4_at x xs w s b hg hm e r h1 h2]
  rfl

variable {g} in
/-- The reference's scales at a row of group `e`. -/
theorem scales4 (hg : ∀ j, g j ≤ 6144) (hm : ∀ i j : Fin 5, i ≤ j → g i ≤ g j) (e : Fin 4) (r : Fin 6144)
    (h1 : g e.castSucc ≤ r.val) (h2 : r.val < g e.succ) (p : Fin 40) :
    (k0_pay18 (F := Ideal) (gate4 g x xs w s b) (up4 g x xs w s b) (ix2 r p) : EReal) = rScale (grp4 x xs w s b e r p) := by
  rw [pay18_raw, pay16_at]
  simp only [act4_at x xs w s b hg hm e r h1 h2]
  rfl

end

end Cert.ReferenceIdeal.RPay

end
-- ==== Proof.Value.ROut.lean ====
/- What the reference's body leaves in its two result blocks: the codes and the scales of the loaded blocks' activations. -/
module

public import proofs.«01_k».proof.Proof.Value.RQuant
public import proofs.«01_k».proof.Proof.Gen.ReferenceIdeal.Value
public import Idealize.ShloMosaic.Lib.Pipeline.ValueKit.Acc
public import Idealize.ShloMosaic.Lib.Pipeline.ValueKit.Geometry

@[expose] public section

set_option maxRecDepth 65536

noncomputable section

namespace Cert.ReferenceIdeal.ROut

open Cert.ReferenceIdeal Cert.ReferenceIdeal.Gen Cert.ReferenceIdeal.RPay Cert.Quant
open Idealize.ShloMosaic Idealize.ShloMosaic.TcCoe

/-! ## The loads of parts of a block -/

/-- The weights of group `e`. -/
def rowW (x : Vec Ideal S4x3584x10240 .fp8e4m3) (e : Fin 4) : Vec Ideal S1x3584x10240 .fp8e4m3 := fun i => x (ix3 e (i 1) (i 2))

/-- The row of group `e`. -/
def rowS (x : Vec Ideal S4x10240 .f32) (e : Fin 4) : Vec Ideal S1x10240 .f32 := fun i => x (ix2 e (i 1))

/-- The load of one group's weights. -/
theorem ldW (x : Vec Ideal S4x3584x10240 .fp8e4m3) (k : ℕ) (inb) (e : Fin 4) (he : k = e.val) :
    View.ld (Val := Elt Ideal) x (Rect.unit (s := S4x3584x10240) ![k, 0, 0] ![1, 3584, 10240] inb) = rowW x e := by
  funext i
  refine congrArg x (funext fun a => Fin.ext ?_)
  match a with
  | ⟨0, _⟩ =>
    have : (i 0).val < 1 := (i 0).isLt
    show k + 1 * (i 0).val = e.val
    omega
  | ⟨1, _⟩ => show 0 + 1 * (i 1).val = (i 1).val; omega
  | ⟨2, _⟩ => show 0 + 1 * (i 2).val = (i 2).val; omega

/-- The load of one group's row of scales or biases. -/
theorem ldS (x : Vec Ideal S4x10240 .f32) (k : ℕ) (inb) (e : Fin 4) (he : k = e.val) :
    View.ld (Val := Elt Ideal) x (Rect.unit (s := S4x10240) ![k, 0] ![1, 10240] inb) = rowS x e := by
  funext i
  refine congrArg x (funext fun a => Fin.ext ?_)
  match a with
  | ⟨0, _⟩ =>
    have : (i 0).val < 1 := (i 0).isLt
    show k + 1 * (i 0).val = e.val
    omega
  | ⟨1, _⟩ => show 0 + 1 * (i 1).val = (i 1).val; omega

/-- The place of the load of one word of the table. -/
theorem at5 (k : ℕ) (inb) (i : S1.Idx) (e : Fin 5) (he : k = e.val) :
    (Rect.unit (s := S5) ![k] ![1] inb).idx i = ix1 e := by
  funext a
  refine Fin.ext ?_
  match a with
  | ⟨0, _⟩ =>
    have : (i 0).val < 1 := (i 0).isLt
    show k + 1 * (i 0).val = e.val
    omega

section
variable {g : Fin 5 → ℕ} (c : Dev nD) (arg0 : Memref sig .tc .smem S5 .i32) (harg0 : arg0.IsWhole) (arg1 : Memref sig .tc .vmem S6144x3584 .fp8e4m3) (harg1 : arg1.IsWhole)
  (arg2 : Memref sig .tc .vmem S6144x1 .f32) (harg2 : arg2.IsWhole) (arg3 : Memref sig .tc .vmem S4x3584x10240 .fp8e4m3) (harg3 : arg3.IsWhole)
  (arg4 : Memref sig .tc .vmem S4x10240 .f32) (harg4 : arg4.IsWhole) (arg5 : Memref sig .tc .vmem S4x10240 .f32) (harg5 : arg5.IsWhole)
  (arg6 : Memref sig .tc .vmem S6144x5120 .fp8e4m3) (harg6 : arg6.IsWhole) (arg7 : Memref sig .tc .vmem S6144x40 .f32) (harg7 : arg7.IsWhole)
  (x0 : Vec Ideal S5 .i32) (x1 : Vec Ideal S6144x3584 .fp8e4m3) (x2 : Vec Ideal S6144x1 .f32) (x3 : Vec Ideal S4x3584x10240 .fp8e4m3)
  (x4 : Vec Ideal S4x10240 .f32) (x5 : Vec Ideal S4x10240 .f32)

/-- The block of codes is the quantised activations of the loaded blocks. -/
theorem out6 (hw : ∀ j : Fin 5, x0 (ix1 j) = BitVec.ofNat 32 (g j)) :
    out0_A_6 c arg0 harg0 arg1 harg1 arg2 harg2 arg3 harg3 arg4 harg4 arg5 harg5 arg6 harg6 arg7 harg7 x0 x1 x2 x3 x4 x5
      = k0_pay17 (F := Ideal) (gate4 g x1 x2 (rowW x3) (rowS x4) (rowS x5)) (up4 g x1 x2 (rowW x3) (rowS x4) (rowS x5)) := by
  frame_out
  simp only [Memref.IsWhole.read_unread, ldW _ 0 _ 0 rfl, ldW _ 1 _ 1 rfl, ldW _ 2 _ 2 rfl, ldW _ 3 _ 3 rfl, ldS _ 0 _ 0 rfl, ldS _ 1 _ 1 rfl, ldS _ 2 _ 2 rfl, ldS _ 3 _ 3 rfl]
  simp only [View.ld, at5 0 _ _ 0 rfl, at5 1 _ _ 1 rfl, at5 2 _ _ 2 rfl, at5 3 _ _ 3 rfl, at5 4 _ _ 4 rfl, hw]
  rfl

/-- The block of scales likewise. -/
theorem out7 (hw : ∀ j : Fin 5, x0 (ix1 j) = BitVec.ofNat 32 (g j)) :
    out0_A_7 c arg0 harg0 arg1 harg1 arg2 harg2 arg3 harg3 arg4 harg4 arg5 harg5 arg6 harg6 arg7 harg7 x0 x1 x2 x3 x4 x5
      = k0_pay18 (F := Ideal) (gate4 g x1 x2 (rowW x3) (rowS x4) (rowS x5)) (up4 g x1 x2 (rowW x3) (rowS x4) (rowS x5)) := by
  frame_out
  simp only [Memref.IsWhole.read_unread, ldW _ 0 _ 0 rfl, ldW _ 1 _ 1 rfl, ldW _ 2 _ 2 rfl, ldW _ 3 _ 3 rfl, ldS _ 0 _ 0 rfl, ldS _ 1 _ 1 rfl, ldS _ 2 _ 2 rfl, ldS _ 3 _ 3 rfl]
  simp only [View.ld, at5 0 _ _ 0 rfl, at5 1 _ _ 1 rfl, at5 2 _ _ 2 rfl, at5 3 _ _ 3 rfl, at5 4 _ _ 4 rfl, hw]
  rfl

end

end Cert.ReferenceIdeal.ROut

end
-- ==== Proof.Value.RArr.lean ====
/- What the reference leaves in its two result arrays: at every row of group `e`, the codes and the scales of the row's activations. -/
module

public import proofs.«01_k».proof.Proof.Value.ROut
public import proofs.«01_k».proof.Proof.Sizes
public import Idealize.ShloMosaic.Lib.StableHlo.RunRead

@[expose] public section

set_option maxRecDepth 65536

noncomputable section

namespace Cert.ReferenceIdeal.RArr

open Cert.ReferenceIdeal Cert.ReferenceIdeal.Gen Cert.ReferenceIdeal.RPay Cert.ReferenceIdeal.ROut Cert.Quant Cert.Sizes
open Idealize.ShloMosaic Idealize.ShloMosaic.TcCoe

variable (m : (ℓ : Loc nD τ sig) → Buf (Elt Ideal) ℓ)

/-! ## The staged blocks: the whole arrays -/

/-- The region finds in the table the host's `concat([0], cumsum(group_sizes))`. -/
theorem V_main_v2 (c : Dev nD) : V m c main_v2
    = concatenate S5 0 [⟨S1, broadcastInDim S1 ![] bcast_S_S1 (constantI S_ 32 0#32)⟩,
        ⟨S4, Host.reduceWindow IntOp.addi ![4] ![1] ![3] ![0] (m ((c : Thread nD τ).loc main_arg5))
          (broadcastInDim S_ ![] bcast_S_S_ (constantI S_ 32 0#32)) reduceWindows_S4_S4_w4s1p3_0 h_S_⟩] concatenates_S1_S4_S5_d0 := by
  unfold V hostOps0 hostOps0_1 hostOps0_2
  simp only [List.flatten_cons, List.flatten_nil, List.append_nil, List.cons_append, List.nil_append]
  after_reads_simp
  rfl

/-- Word `j` of the table is the end of the first `j` groups. -/
theorem V_word {g : Nat → Nat} (c : Dev nD) (h : Sizes (m ((c : Thread nD τ).loc main_arg5)) g) (j : Fin 5) :
    V m c main_v2 (ix1 j) = BitVec.ofNat 32 (ends g j.val) := by
  rw [V_main_v2]
  exact offs_word h _ (fun _ => rfl) _ rfl _ _ _ j

variable (c : Dev nD) (t : Fin cfg0.N)

/-- The block of group ends is the table. -/
theorem blk0 {g : Nat → Nat} (h : Sizes (m ((c : Thread nD τ).loc main_arg5)) g) (j : Fin 5) : iblk m c 0 t (ix1 j) = BitVec.ofNat 32 (ends g j.val) := by
  refine Eq.trans ?_ (V_word m c h j)
  refine congrArg (V m c main_v2) (funext fun a => Fin.ext ((Pipeline.Window.rect_emb_val (cfg0.win 0) t (ix1 j) a).trans ?_))
  match a with
  | ⟨0, _⟩ => show 0 * 5 + j.val = j.val; omega

/-- The block of activations is the whole array. -/
theorem blk1 : (iblk m c 1 t : Vec Ideal S6144x3584 .fp8e4m3) = m ((c : Thread nD τ).loc main_arg0) := by
  funext i
  refine Eq.trans ?_ (congrFun (V_main_arg0 m c) i)
  refine congrArg (V m c main_arg0) (funext fun a => Fin.ext ((Pipeline.Window.rect_emb_val (cfg0.win 1) t i a).trans ?_))
  match a with
  | ⟨0, _⟩ => show 0 * 6144 + (i 0).val = (i 0).val; omega
  | ⟨1, _⟩ => show 0 * 3584 + (i 1).val = (i 1).val; omega

/-- The block of the rows' scales is the whole array. -/
theorem blk2 : (iblk m c 2 t : Vec Ideal S6144x1 .f32) = m ((c : Thread nD τ).loc main_arg1) := by
  funext i
  refine Eq.trans ?_ (congrFun (V_main_arg1 m c) i)
  refine congrArg (V m c main_arg1) (funext fun a => Fin.ext ((Pipeline.Window.rect_emb_val (cfg0.win 2) t i a).trans ?_))
  match a with
  | ⟨0, _⟩ => show 0 * 6144 + (i 0).val = (i 0).val; omega
  | ⟨1, _⟩ => show 0 * 1 + (i 1).val = (i 1).val; omega

/-- The block of weights is the whole array. -/
theorem blk3 : (iblk m c 3 t : Vec Ideal S4x3584x10240 .fp8e4m3) = m ((c : Thread nD τ).loc main_arg2) := by
  funext i
  refine Eq.trans ?_ (congrFun (V_main_arg2 m c) i)
  refine congrArg (V m c main_arg2) (funext fun a => Fin.ext ((Pipeline.Window.rect_emb_val (cfg0.win 3) t i a).trans ?_))
  match a with
  | ⟨0, _⟩ => show 0 * 4 + (i 0).val = (i 0).val; omega
  | ⟨1, _⟩ => show 0 * 3584 + (i 1).val = (i 1).val; omega
  | ⟨2, _⟩ => show 0 * 10240 + (i 2).val = (i 2).val; omega

/-- The block of the weights' scales is the whole array. -/
theorem blk4 : (iblk m c 4 t : Vec Ideal S4x10240 .f32) = m ((c : Thread nD τ).loc main_arg3) := by
  funext i
  refine Eq.trans ?_ (congrFun (V_main_arg3 m c) i)
  refine congrArg (V m c main_arg3) (funext fun a => Fin.ext ((Pipeline.Window.rect_emb_val (cfg0.win 4) t i a).trans ?_))
  match a with
  | ⟨0, _⟩ => show 0 * 4 + (i 0).val = (i 0).val; omega
  | ⟨1, _⟩ => show 0 * 10240 + (i 1).val = (i 1).val; omega

/-- The block of biases is the whole array. -/
theorem blk5 : (iblk m c 5 t : Vec Ideal S4x10240 .f32) = m ((c : Thread nD τ).loc main_arg4) := by
  funext i
  refine Eq.trans ?_ (congrFun (V_main_arg4 m c) i)
  refine congrArg (V m c main_arg4) (funext fun a => Fin.ext ((Pipeline.Window.rect_emb_val (cfg0.win 5) t i a).trans ?_))
  match a with
  | ⟨0, _⟩ => show 0 * 4 + (i 0).val = (i 0).val; omega
  | ⟨1, _⟩ => show 0 * 10240 + (i 1).val = (i 1).val; omega

/-! ## The result arrays -/

/-- The activations of a row, in groups of 128, by the launch arguments. -/
def grp (e : Fin 4) (r : Fin 6144) (p : Fin 40) : Fin 128 → EReal :=
  Spec.grp (fun r k => m ((c : Thread nD τ).loc main_arg0) (ix2 r k)) (fun r => m ((c : Thread nD τ).loc main_arg1) (ix2 r 0))
    (fun e k q => m ((c : Thread nD τ).loc main_arg2) (ix3 e k q)) (fun e q => m ((c : Thread nD τ).loc main_arg3) (ix2 e q))
    (fun e q => m ((c : Thread nD τ).loc main_arg4) (ix2 e q)) e r p

/-- The array of codes is the block that the one point leaves. -/
theorem arr6_eq : (dats m 0 c).arrAt 6 cfg0.N = (outsAt0 m c t0_0).1 := by
  refine (dats m 0 c).arrAt_eq_of_after_last 6 t0_0 (by decide +kernel) _ fun j => ?_
  rw [after0_6]
  rfl

/-- The array of scales is the block that the one point leaves. -/
theorem arr7_eq : (dats m 0 c).arrAt 7 cfg0.N = (outsAt0 m c t0_0).2 := by
  refine (dats m 0 c).arrAt_eq_of_after_last 7 t0_0 (by decide +kernel) _ fun j => ?_
  rw [after0_7]
  rfl

variable {m c} {g : ℕ → ℕ} (h : Sizes (m ((c : Thread nD τ).loc main_arg5)) g)
include h

/-- The codes' array. -/
theorem arr6 (r : Fin 6144) (C : Fin 5120) (e : Fin 4) (h1 : ends g e.val ≤ r.val) (h2 : r.val < ends g (e.val + 1)) :
    (dats m 0 c).arrAt 6 cfg0.N (ix2 r C) = rCode (grp m c e r ⟨C.val / 128, by omega⟩) ⟨C.val % 128, by omega⟩ := by
  rw [arr6_eq]
  unfold outsAt0
  dsimp only
  rw [out6 (g := fun j => ends g j.val) (hw := fun j => blk0 m c t0_0 h j), blk1, blk2, blk3, blk4, blk5]
  exact codes4 _ _ _ _ _ (fun j => ends_le h (by omega)) (fun i j hij => ends_mono g hij) e r h1 h2 C

/-- The scales' array. -/
theorem arr7 (r : Fin 6144) (q : Fin 40) (e : Fin 4) (h1 : ends g e.val ≤ r.val) (h2 : r.val < ends g (e.val + 1)) :
    (dats m 0 c).arrAt 7 cfg0.N (ix2 r q) = rScale (grp m c e r q) := by
  rw [arr7_eq]
  unfold outsAt0
  dsimp only
  rw [out7 (g := fun j => ends g j.val) (hw := fun j => blk0 m c t0_0 h j), blk1, blk2, blk3, blk4, blk5]
  exact scales4 _ _ _ _ _ (fun j => ends_le h (by omega)) (fun i j hij => ends_mono g hij) e r h1 h2 q

end Cert.ReferenceIdeal.RArr

end
-- ==== Proof.Value.Same.lean ====
/- The value claim: at the ideal instance the kernel and the reference end with equal codes and equal scales. -/
module

public import proofs.«01_k».proof.Defs
public import proofs.«01_k».proof.Proof.Dev.Frames
public import proofs.«01_k».proof.Proof.Value.KOut
public import proofs.«01_k».proof.Proof.Value.RArr

@[expose] public section

set_option maxRecDepth 16384

namespace Cert.Same

open Idealize.ShloMosaic Idealize.ShloMosaic.TcCoe Idealize.SL.Sem Cert.Quant Cert.Sizes

/-- From memories that agree on the arguments, the groups of activations are the same. -/
theorem grp_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e : Fin 4) (r : Fin 6144) (p : Fin 40) : Cert.ReferenceIdeal.RArr.grp m' c e r p = Cert.KernelIdeal.KBlocks.grp m c e r p := by
  unfold Cert.ReferenceIdeal.RArr.grp Cert.KernelIdeal.KBlocks.grp
  rw [h0, h1, h2, h3, h4]

/-- At the ideal instance the kernel and the reference run from the same arguments to the same two results. -/
theorem algebraic : Cert.algebraic_KernelIdeal_ReferenceIdeal := by
  intro m ρ m' ρ' hm hargs
  obtain ⟨g, hg⟩ := Cert.Sizes.of_pre _ _ _ _ _ _ (hm 0)
  refine ⟨fun c => (Cert.ReferenceIdeal.Gen.dats m' 0 c).arrAt 6 Cert.ReferenceIdeal.cfg0.N,
    fun c => (Cert.ReferenceIdeal.Gen.dats m' 0 c).arrAt 7 Cert.ReferenceIdeal.cfg0.N, ?_, Cert.ReferenceIdeal.Value.run_blocks m' ρ'⟩
  refine (θ_run Cert.KernelIdeal.defs _ _).mono (fun r h c => ?_)
    (Cert.KernelIdeal.KOut.result ρ trivial (Cert.KernelIdeal.Ends.hyps_of_sizes m hg trivial) hg)
  obtain ⟨hv, hk⟩ := h c
  obtain ⟨h0, h1, h2, h3, h4, h5⟩ := hargs c
  have hc : c = 0 := Subsingleton.elim _ _
  have hg' : Sizes (m' ((c.tc : Thread Cert.ReferenceIdeal.nD Cert.ReferenceIdeal.τ).loc Cert.ReferenceIdeal.main_arg5)) g := by
    rw [h5, hc]; exact hg
  refine ⟨?_, ?_, hk⟩
  · funext i
    let ii : Cert.KernelIdeal.S6144x5120.Idx := i
    obtain ⟨e, he1, he2⟩ := exists_group hg (ii 0).isLt
    have hi : ii = ix2 (ii 0) (ii 1) := by
      funext a
      match a with
      | ⟨0, _⟩ => rfl
      | ⟨1, _⟩ => rfl
    show r.2.mem ((c.tc : Thread Cert.KernelIdeal.nD Cert.KernelIdeal.τ).loc Cert.KernelIdeal.main_v5_0) ii = (Cert.ReferenceIdeal.Gen.dats m' 0 c).arrAt 6 Cert.ReferenceIdeal.cfg0.N ii
    rw [hi]
    refine ((hv (ii 0) e he1 he2).1 (ii 1)).trans ?_
    refine Eq.trans ?_ (Cert.ReferenceIdeal.RArr.arr6 hg' (ii 0) (ii 1) e he1 he2).symm
    exact (Cert.Spec.codes _ _ _ _ _ _ _ _ _).trans (congrArg (fun G => rCode G _) (grp_same m m' c h0 h1 h2 h3 h4 e (ii 0) _).symm)
  · funext i
    let ii : Cert.KernelIdeal.S6144x40.Idx := i
    obtain ⟨e, he1, he2⟩ := exists_group hg (ii 0).isLt
    have hi : ii = ix2 (ii 0) (ii 1) := by
      funext a
      match a with
      | ⟨0, _⟩ => rfl
      | ⟨1, _⟩ => rfl
    show r.2.mem ((c.tc : Thread Cert.KernelIdeal.nD Cert.KernelIdeal.τ).loc Cert.KernelIdeal.main_v5_1) ii = (Cert.ReferenceIdeal.Gen.dats m' 0 c).arrAt 7 Cert.ReferenceIdeal.cfg0.N ii
    rw [hi]
    refine ((hv (ii 0) e he1 he2).2 (ii 1)).trans ?_
    refine Eq.trans ?_ (Cert.ReferenceIdeal.RArr.arr7 hg' (ii 0) (ii 1) e he1 he2).symm
    exact (Cert.Spec.scales _ _ _ _ _ _ _ _).trans (congrArg rScale (grp_same m m' c h0 h1 h2 h3 h4 e (ii 0) (ii 1)).symm)

end Cert.Same
-- ==== Proof.lean ====
module

public import proofs.«01_k».proof.Defs
public import proofs.«01_k».proof.Proof.Dev.Frames
public import proofs.«01_k».proof.Proof.Value.Same

@[expose] public section

/-- Every claim of the certificate: the frames of the three programs, the idealization, and equal results at the ideal instance. -/
theorem Cert.Proof.claim : Cert.Claim :=
  ⟨inferInstance, inferInstance, inferInstance, inferInstance,
    Cert.Frames.kernel, Cert.Frames.kernelIdeal, Cert.Frames.referenceIdeal, fun m ρ _ => Cert.ReferenceIdeal.Gen.frame m ρ, trivial, Cert.Same.algebraic⟩
